-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantReference (m : (ℓ : Loc Cert.QuantReference.nD Cert.QuantReference.τ Cert.QuantReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2)
      ∧ r.2.mem ((c.tc : Thread Cert.Quant.nD Cert.Quant.τ).loc Cert.Quant.main_arg3) = m ((c.tc : Thread Cert.Quant.nD Cert.Quant.τ).loc Cert.Quant.main_arg3)
      ∧ r.2.mem ((c.tc : Thread Cert.Quant.nD Cert.Quant.τ).loc Cert.Quant.main_arg4) = m ((c.tc : Thread Cert.Quant.nD Cert.Quant.τ).loc Cert.Quant.main_arg4))
      ∧ r.2.sem = fun _ => 0)

def quiescent_QuantReference [hQuantReference : Cert.QuantReference.Facts] : Prop :=
  ∀ (m : (ℓ : Loc Cert.QuantReference.nD Cert.QuantReference.τ Cert.QuantReference.sig) → Buf (Elt Bits) ℓ) (g : Dev Cert.QuantReference.nD → PrngReg), Pre_QuantReference m →
    θ_run (Cert.QuantReference.defs (F := Bits)) (onTc (τ := Cert.QuantReference.τ) (Cert.QuantReference.main (F := Bits))) ⟨m, fun _ => 0, g⟩ (fun r => (∀ c : Dev Cert.QuantReference.nD,
      r.2.mem ((c.tc : Thread Cert.QuantReference.nD Cert.QuantReference.τ).loc Cert.QuantReference.main_arg0) = m ((c.tc : Thread Cert.QuantReference.nD Cert.QuantReference.τ).loc Cert.QuantReference.main_arg0)
      ∧ r.2.mem ((c.tc : Thread Cert.QuantReference.nD Cert.QuantReference.τ).loc Cert.QuantReference.main_arg1) = m ((c.tc : Thread Cert.QuantReference.nD Cert.QuantReference.τ).loc Cert.QuantReference.main_arg1)
      ∧ r.2.mem ((c.tc : Thread Cert.QuantReference.nD Cert.QuantReference.τ).loc Cert.QuantReference.main_arg2) = m ((c.tc : Thread Cert.QuantReference.nD Cert.QuantReference.τ).loc Cert.QuantReference.main_arg2)
      ∧ r.2.mem ((c.tc : Thread Cert.QuantReference.nD Cert.QuantReference.τ).loc Cert.QuantReference.main_arg3) = m ((c.tc : Thread Cert.QuantReference.nD Cert.QuantReference.τ).loc Cert.QuantReference.main_arg3)
      ∧ r.2.mem ((c.tc : Thread Cert.QuantReference.nD Cert.QuantReference.τ).loc Cert.QuantReference.main_arg4) = m ((c.tc : Thread Cert.QuantReference.nD Cert.QuantReference.τ).loc Cert.QuantReference.main_arg4))
      ∧ r.2.sem = fun _ => 0)

def preserves_Kernel_KernelIdeal : Prop :=
  IdealRules.named_const.Statement Cert.KernelIdeal.κ "gelu_kc" .f32 0x3D122279#32 ((80338380498831 / 2251799813685248 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Quant_QuantReference [hQuant : Cert.Quant.Facts] [hQuantReference : Cert.QuantReference.Facts] : Prop :=
  ∀ (m : (ℓ : Loc Cert.Quant.nD Cert.Quant.τ Cert.Quant.sig) → Buf (Elt Bits) ℓ) (g : Dev Cert.Quant.nD → PrngReg)
    (m' : (ℓ : Loc Cert.QuantReference.nD Cert.QuantReference.τ Cert.QuantReference.sig) → Buf (Elt Bits) ℓ) (g' : Dev Cert.QuantReference.nD → PrngReg), Pre_Quant m →
    (∀ c : Dev Cert.Quant.nD,
      m' ((c.tc : Thread Cert.QuantReference.nD Cert.QuantReference.τ).loc Cert.QuantReference.main_arg0) = m ((c.tc : Thread Cert.Quant.nD Cert.Quant.τ).loc Cert.Quant.main_arg0)
      ∧ m' ((c.tc : Thread Cert.QuantReference.nD Cert.QuantReference.τ).loc Cert.QuantReference.main_arg1) = m ((c.tc : Thread Cert.Quant.nD Cert.Quant.τ).loc Cert.Quant.main_arg1)
      ∧ m' ((c.tc : Thread Cert.QuantReference.nD Cert.QuantReference.τ).loc Cert.QuantReference.main_arg2) = m ((c.tc : Thread Cert.Quant.nD Cert.Quant.τ).loc Cert.Quant.main_arg2)
      ∧ m' ((c.tc : Thread Cert.QuantReference.nD Cert.QuantReference.τ).loc Cert.QuantReference.main_arg3) = m ((c.tc : Thread Cert.Quant.nD Cert.Quant.τ).loc Cert.Quant.main_arg3)
      ∧ m' ((c.tc : Thread Cert.QuantReference.nD Cert.QuantReference.τ).loc Cert.QuantReference.main_arg4) = m ((c.tc : Thread Cert.Quant.nD Cert.Quant.τ).loc Cert.Quant.main_arg4)) →
    ∃ (v0 : (c : Dev Cert.Quant.nD) → Buf (Elt Bits) ((c.tc : Thread Cert.Quant.nD Cert.Quant.τ).loc Cert.Quant.main_v25_1)) (v1 : (c : Dev Cert.Quant.nD) → Buf (Elt Bits) ((c.tc : Thread Cert.Quant.nD Cert.Quant.τ).loc Cert.Quant.main_v25_2)),
      θ_run (Cert.Quant.defs (F := Bits)) (onTc (τ := Cert.Quant.τ) (Cert.Quant.main (F := Bits))) ⟨m, fun _ => 0, g⟩ (fun r => ∀ c : Dev Cert.Quant.nD,
          r.2.mem ((c.tc : Thread Cert.Quant.nD Cert.Quant.τ).loc Cert.Quant.main_v25_1) = v0 c
          ∧ r.2.mem ((c.tc : Thread Cert.Quant.nD Cert.Quant.τ).loc Cert.Quant.main_v25_2) = v1 c
          ∧ r.2.mem ((c.tc : Thread Cert.Quant.nD Cert.Quant.τ).loc Cert.Quant.main_arg0) = m ((c.tc : Thread Cert.Quant.nD Cert.Quant.τ).loc Cert.Quant.main_arg0)
          ∧ r.2.mem ((c.tc : Thread Cert.Quant.nD Cert.Quant.τ).loc Cert.Quant.main_arg1) = m ((c.tc : Thread Cert.Quant.nD Cert.Quant.τ).loc Cert.Quant.main_arg1)
          ∧ r.2.mem ((c.tc : Thread Cert.Quant.nD Cert.Quant.τ).loc Cert.Quant.main_arg2) = m ((c.tc : Thread Cert.Quant.nD Cert.Quant.τ).loc Cert.Quant.main_arg2)
          ∧ r.2.mem ((c.tc : Thread Cert.Quant.nD Cert.Quant.τ).loc Cert.Quant.main_arg3) = m ((c.tc : Thread Cert.Quant.nD Cert.Quant.τ).loc Cert.Quant.main_arg3)
          ∧ r.2.mem ((c.tc : Thread Cert.Quant.nD Cert.Quant.τ).loc Cert.Quant.main_arg4) = m ((c.tc : Thread Cert.Quant.nD Cert.Quant.τ).loc Cert.Quant.main_arg4))
      ∧ θ_run (Cert.QuantReference.defs (F := Bits)) (onTc (τ := Cert.QuantReference.τ) (Cert.QuantReference.main (F := Bits))) ⟨m', fun _ => 0, g'⟩ (fun r => ∀ c : Dev Cert.QuantReference.nD,
          r.2.mem ((c.tc : Thread Cert.QuantReference.nD Cert.QuantReference.τ).loc Cert.QuantReference.main_v0_0) = v0 c
          ∧ r.2.mem ((c.tc : Thread Cert.QuantReference.nD Cert.QuantReference.τ).loc Cert.QuantReference.main_v0_1) = v1 c
          ∧ r.2.mem ((c.tc : Thread Cert.QuantReference.nD Cert.QuantReference.τ).loc Cert.QuantReference.main_arg0) = m' ((c.tc : Thread Cert.QuantReference.nD Cert.QuantReference.τ).loc Cert.QuantReference.main_arg0)
          ∧ r.2.mem ((c.tc : Thread Cert.QuantReference.nD Cert.QuantReference.τ).loc Cert.QuantReference.main_arg1) = m' ((c.tc : Thread Cert.QuantReference.nD Cert.QuantReference.τ).loc Cert.QuantReference.main_arg1)
          ∧ r.2.mem ((c.tc : Thread Cert.QuantReference.nD Cert.QuantReference.τ).loc Cert.QuantReference.main_arg2) = m' ((c.tc : Thread Cert.QuantReference.nD Cert.QuantReference.τ).loc Cert.QuantReference.main_arg2)
          ∧ r.2.mem ((c.tc : Thread Cert.QuantReference.nD Cert.QuantReference.τ).loc Cert.QuantReference.main_arg3) = m' ((c.tc : Thread Cert.QuantReference.nD Cert.QuantReference.τ).loc Cert.QuantReference.main_arg3)
          ∧ r.2.mem ((c.tc : Thread Cert.QuantReference.nD Cert.QuantReference.τ).loc Cert.QuantReference.main_arg4) = m' ((c.tc : Thread Cert.QuantReference.nD Cert.QuantReference.τ).loc Cert.QuantReference.main_arg4))

def Claim : Prop :=
  ∃ (hKernel : Cert.Kernel.Facts) (hKernelIdeal : Cert.KernelIdeal.Facts) (hReferenceIdeal : Cert.ReferenceIdeal.Facts) (hQuant : Cert.Quant.Facts) (hQuantReference : Cert.QuantReference.Facts),
    quiescent_Kernel (hKernel := hKernel)
    ∧ quiescent_KernelIdeal (hKernelIdeal := hKernelIdeal)
    ∧ quiescent_ReferenceIdeal (hReferenceIdeal := hReferenceIdeal)
    ∧ quiescent_Quant (hQuant := hQuant)
    ∧ quiescent_QuantReference (hQuantReference := hQuantReference)
    ∧ preserves_Kernel_KernelIdeal
    ∧ algebraic_KernelIdeal_ReferenceIdeal (hKernelIdeal := hKernelIdeal) (hReferenceIdeal := hReferenceIdeal)
    ∧ bitexact_Quant_QuantReference (hQuant := hQuant) (hQuantReference := hQuantReference)
-- ==== Kernel.lean ====
abbrev S1x2048x16384 : Shape := ⟨3, ![1, 2048, 16384]⟩
abbrev S16 : Shape := ⟨1, ![16]⟩
abbrev S16x16 : Shape := ⟨2, ![16, 16]⟩
abbrev S2048x16384 : Shape := ⟨2, ![2048, 16384]⟩
abbrev S_ : Shape := ⟨0, ![]⟩
abbrev S1x16 : Shape := ⟨2, ![1, 16]⟩
abbrev S16x1x1x16 : Shape := ⟨4, ![16, 1, 1, 16]⟩
abbrev S1x16x16x1 : Shape := ⟨4, ![1, 16, 16, 1]⟩
abbrev S16x16x16x16 : Shape := ⟨4, ![16, 16, 16, 16]⟩
abbrev S256x256 : Shape := ⟨2, ![256, 256]⟩
abbrev S16x256 : Shape := ⟨2, ![16, 256]⟩
abbrev S272x256 : Shape := ⟨2, ![272, 256]⟩
abbrev S16384x128 : Shape := ⟨2, ![16384, 128]⟩
abbrev S1x16384 : Shape := ⟨2, ![1, 16384]⟩
abbrev S8x256 : Shape := ⟨2, ![8, 256]⟩
abbrev S2048x256 : Shape := ⟨2, ![2048, 256]⟩
abbrev S256x128 : Shape := ⟨2, ![256, 128]⟩
abbrev S1x256 : Shape := ⟨2, ![1, 256]⟩
abbrev S128x256 : Shape := ⟨2, ![128, 256]⟩

abbrev nBuf : Space → Nat
  | .hbm => 33
  | .vmem => 12
  | .smem => 0
  | _ => 0

abbrev bufTy : (tb : Table) → Fin (tcTables nBuf tb) → BufTy
  | .hbm, ⟨0, _⟩ => ⟨S1x2048x16384, .bf16⟩
  | .hbm, ⟨1, _⟩ => ⟨S1x2048x16384, .bf16⟩
  | .hbm, ⟨2, _⟩ => ⟨S16, .f32⟩
  | .hbm, ⟨3, _⟩ => ⟨S16x16, .f32⟩
  | .hbm, ⟨4, _⟩ => ⟨S2048x16384, .bf16⟩
  | .hbm, ⟨5, _⟩ => ⟨S2048x16384, .bf16⟩
  | .hbm, ⟨6, _⟩ => ⟨S_, .f32⟩
  | .hbm, ⟨7, _⟩ => ⟨S16x16, .f32⟩
  | .hbm, ⟨8, _⟩ => ⟨S16x16, .f32⟩
  | .hbm, ⟨9, _⟩ => ⟨S1x16, .f32⟩
  | .hbm, ⟨10, _⟩ => ⟨S16x16, .f32⟩
  | .hbm, ⟨11, _⟩ => ⟨S16x16, .f32⟩
  | .hbm, ⟨12, _⟩ => ⟨S16x16, .bf16⟩
  | .hbm, ⟨13, _⟩ => ⟨S16x16, .i32⟩
  | .hbm, ⟨14, _⟩ => ⟨S16x16, .i32⟩
  | .hbm, ⟨15, _⟩ => ⟨S_, .i32⟩
  | .hbm, ⟨16, _⟩ => ⟨S16x16, .i32⟩
  | .hbm, ⟨17, _⟩ => ⟨S16x16, .i32⟩
  | .hbm, ⟨18, _⟩ => ⟨S16x16, .i1⟩
  | .hbm, ⟨19, _⟩ => ⟨S16x16, .bf16⟩
  | .hbm, ⟨20, _⟩ => ⟨S16x1x1x16, .bf16⟩
  | .hbm, ⟨21, _⟩ => ⟨S1x16x16x1, .bf16⟩
  | .hbm, ⟨22, _⟩ => ⟨S16x16x16x16, .bf16⟩
  | .hbm, ⟨23, _⟩ => ⟨S16x16x16x16, .bf16⟩
  | .hbm, ⟨24, _⟩ => ⟨S16x16x16x16, .bf16⟩
  | .hbm, ⟨25, _⟩ => ⟨S256x256, .bf16⟩
  | .hbm, ⟨26, _⟩ => ⟨S_, .bf16⟩
  | .hbm, ⟨27, _⟩ => ⟨S16x256, .bf16⟩
  | .hbm, ⟨28, _⟩ => ⟨S272x256, .bf16⟩
  | .hbm, ⟨29, _⟩ => ⟨S2048x16384, .bf16⟩
  | .hbm, ⟨30, _⟩ => ⟨S16384x128, .f32⟩
  | .hbm, ⟨31, _⟩ => ⟨S1x16384, .f32⟩
  | .hbm, ⟨32, _⟩ => ⟨S8x256, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S272x256, .bf16⟩
  | .local _ .vmem, ⟨5, _⟩ => ⟨S2048x256, .bf16⟩
  | .local _ .vmem, ⟨6, _⟩ => ⟨S2048x256, .bf16⟩
  | .local _ .vmem, ⟨7, _⟩ => ⟨S256x128, .f32⟩
  | .local _ .vmem, ⟨8, _⟩ => ⟨S256x128, .f32⟩
  | .local _ .vmem, ⟨9, _⟩ => ⟨S1x256, .f32⟩
  | .local _ .vmem, ⟨10, _⟩ => ⟨S1x256, .f32⟩
  | .local _ .vmem, ⟨11, _⟩ => ⟨S8x256, .f32⟩
  | _, _ => ⟨S1x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22_0 : Ref sig .tc := ⟨.hbm, 29, rfl⟩
abbrev main_v22_1 : Ref sig .tc := ⟨.hbm, 30, rfl⟩
abbrev main_v22_2 : Ref sig .tc := ⟨.hbm, 31, rfl⟩
abbrev main_v22_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S272x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "gelu_kc" => some ((80338380498831 / 2251799813685248 : ℝ) : EReal)
  | _ => none
-- ==== ReferenceIdeal.lean ====
abbrev S1x2048x16384 : Shape := ⟨3, ![1, 2048, 16384]⟩
abbrev S16 : Shape := ⟨1, ![16]⟩
abbrev S_ : Shape := ⟨0, ![]⟩
abbrev S16384 : Shape := ⟨1, ![16384]⟩
abbrev S16x1 : Shape := ⟨2, ![16, 1]⟩
abbrev S1x16 : Shape := ⟨2, ![1, 16]⟩
abbrev S16x16 : Shape := ⟨2, ![16, 16]⟩
abbrev S1x128x16x16384 : Shape := ⟨4, ![1, 128, 16, 16384]⟩
abbrev S16x1x128x16384 : Shape := ⟨4, ![16, 1, 128, 16384]⟩
abbrev S1x16384x128x16 : Shape := ⟨4, ![1, 16384, 128, 16]⟩
abbrev S1x16384x128 : Shape := ⟨3, ![1, 16384, 128]⟩
abbrev S64x256x16x8 : Shape := ⟨4, ![64, 256, 16, 8]⟩
abbrev S256x8 : Shape := ⟨2, ![256, 8]⟩
abbrev S2048x16384 : Shape := ⟨2, ![2048, 16384]⟩
abbrev S16384x128 : Shape := ⟨2, ![16384, 128]⟩
abbrev S1x16384 : Shape := ⟨2, ![1, 16384]⟩
abbrev S8x256 : Shape := ⟨2, ![8, 256]⟩

abbrev nBuf : Space → Nat
  | .hbm => 110
  | .vmem => 0
  | .smem => 0
  | _ => 0

abbrev bufTy : (tb : Table) → Fin (tcTables nBuf tb) → BufTy
  | .hbm, ⟨0, _⟩ => ⟨S1x2048x16384, .bf16⟩
  | .hbm, ⟨1, _⟩ => ⟨S1x2048x16384, .bf16⟩
  | .hbm, ⟨2, _⟩ => ⟨S16, .f32⟩
  | .hbm, ⟨3, _⟩ => ⟨S1x2048x16384, .f32⟩
  | .hbm, ⟨4, _⟩ => ⟨S1x2048x16384, .f32⟩
  | .hbm, ⟨5, _⟩ => ⟨S1x2048x16384, .f32⟩
  | .hbm, ⟨6, _⟩ => ⟨S_, .f32⟩
  | .hbm, ⟨7, _⟩ => ⟨S1x2048x16384, .f32⟩
  | .hbm, ⟨8, _⟩ => ⟨S1x2048x16384, .f32⟩
  | .hbm, ⟨9, _⟩ => ⟨S1x2048x16384, .f32⟩
  | .hbm, ⟨10, _⟩ => ⟨S_, .f32⟩
  | .hbm, ⟨11, _⟩ => ⟨S1x2048x16384, .f32⟩
  | .hbm, ⟨12, _⟩ => ⟨S1x2048x16384, .f32⟩
  | .hbm, ⟨13, _⟩ => ⟨S1x2048x16384, .f32⟩
  | .hbm, ⟨14, _⟩ => ⟨S_, .f32⟩
  | .hbm, ⟨15, _⟩ => ⟨S1x2048x16384, .f32⟩
  | .hbm, ⟨16, _⟩ => ⟨S1x2048x16384, .f32⟩
  | .hbm, ⟨17, _⟩ => ⟨S_, .f32⟩
  | .hbm, ⟨18, _⟩ => ⟨S1x2048x16384, .f32⟩
  | .hbm, ⟨19, _⟩ => ⟨S1x2048x16384, .f32⟩
  | .hbm, ⟨20, _⟩ => ⟨S_, .f32⟩
  | .hbm, ⟨21, _⟩ => ⟨S1x2048x16384, .f32⟩
  | .hbm, ⟨22, _⟩ => ⟨S1x2048x16384, .f32⟩
  | .hbm, ⟨23, _⟩ => ⟨S1x2048x16384, .f32⟩
  | .hbm, ⟨24, _⟩ => ⟨S_, .f32⟩
  | .hbm, ⟨25, _⟩ => ⟨S1x2048x16384, .f32⟩
  | .hbm, ⟨26, _⟩ => ⟨S1x2048x16384, .f32⟩
  | .hbm, ⟨27, _⟩ => ⟨S1x2048x16384, .f32⟩
  | .hbm, ⟨28, _⟩ => ⟨S_, .f32⟩
  | .hbm, ⟨29, _⟩ => ⟨S1x2048x16384, .f32⟩
  | .hbm, ⟨30, _⟩ => ⟨S1x2048x16384, .f32⟩
  | .hbm, ⟨31, _⟩ => ⟨S_, .f32⟩
  | .hbm, ⟨32, _⟩ => ⟨S1x2048x16384, .f32⟩
  | .hbm, ⟨33, _⟩ => ⟨S1x2048x16384, .f32⟩
  | .hbm, ⟨34, _⟩ => ⟨S1x2048x16384, .f32⟩
  | .hbm, ⟨35, _⟩ => ⟨S_, .f32⟩
  | .hbm, ⟨36, _⟩ => ⟨S1x2048x16384, .f32⟩
  | .hbm, ⟨37, _⟩ => ⟨S1x2048x16384, .f32⟩
  | .hbm, ⟨38, _⟩ => ⟨S_, .f32⟩
  | .hbm, ⟨39, _⟩ => ⟨S1x2048x16384, .f32⟩
  | .hbm, ⟨40, _⟩ => ⟨S1x2048x16384, .f32⟩
  | .hbm, ⟨41, _⟩ => ⟨S1x2048x16384, .f32⟩
  | .hbm, ⟨42, _⟩ => ⟨S1x2048x16384, .f32⟩
  | .hbm, ⟨43, _⟩ => ⟨S1x2048x16384, .f32⟩
  | .hbm, ⟨44, _⟩ => ⟨S1x2048x16384, .f32⟩
  | .hbm, ⟨45, _⟩ => ⟨S1x2048x16384, .bf16⟩
  | .hbm, ⟨46, _⟩ => ⟨S1x2048x16384, .f32⟩
  | .hbm, ⟨47, _⟩ => ⟨S_, .f32⟩
  | .hbm, ⟨48, _⟩ => ⟨S16384, .f32⟩
  | .hbm, ⟨49, _⟩ => ⟨S16, .i32⟩
  | .hbm, ⟨50, _⟩ => ⟨S16x1, .i32⟩
  | .hbm, ⟨51, _⟩ => ⟨S16, .i32⟩
  | .hbm, ⟨52, _⟩ => ⟨S1x16, .i32⟩
  | .hbm, ⟨53, _⟩ => ⟨S16x16, .i32⟩
  | .hbm, ⟨54, _⟩ => ⟨S16x16, .i32⟩
  | .hbm, ⟨55, _⟩ => ⟨S16x16, .i32⟩
  | .hbm, ⟨56, _⟩ => ⟨S_, .i32⟩
  | .hbm, ⟨57, _⟩ => ⟨S16x16, .i32⟩
  | .hbm, ⟨58, _⟩ => ⟨S16x16, .i32⟩
  | .hbm, ⟨59, _⟩ => ⟨S_, .i32⟩
  | .hbm, ⟨60, _⟩ => ⟨S16x16, .i32⟩
  | .hbm, ⟨61, _⟩ => ⟨S16x16, .i32⟩
  | .hbm, ⟨62, _⟩ => ⟨S_, .i32⟩
  | .hbm, ⟨63, _⟩ => ⟨S16x16, .i32⟩
  | .hbm, ⟨64, _⟩ => ⟨S16x16, .i32⟩
  | .hbm, ⟨65, _⟩ => ⟨S16x16, .i32⟩
  | .hbm, ⟨66, _⟩ => ⟨S_, .i32⟩
  | .hbm, ⟨67, _⟩ => ⟨S16x16, .i32⟩
  | .hbm, ⟨68, _⟩ => ⟨S16x16, .i32⟩
  | .hbm, ⟨69, _⟩ => ⟨S_, .i32⟩
  | .hbm, ⟨70, _⟩ => ⟨S16x16, .i32⟩
  | .hbm, ⟨71, _⟩ => ⟨S16x16, .i32⟩
  | .hbm, ⟨72, _⟩ => ⟨S16x16, .i32⟩
  | .hbm, ⟨73, _⟩ => ⟨S_, .i32⟩
  | .hbm, ⟨74, _⟩ => ⟨S16x16, .i32⟩
  | .hbm, ⟨75, _⟩ => ⟨S16x16, .i32⟩
  | .hbm, ⟨76, _⟩ => ⟨S_, .i32⟩
  | .hbm, ⟨77, _⟩ => ⟨S16x16, .i32⟩
  | .hbm, ⟨78, _⟩ => ⟨S16x16, .i32⟩
  | .hbm, ⟨79, _⟩ => ⟨S16x16, .i32⟩
  | .hbm, ⟨80, _⟩ => ⟨S_, .i32⟩
  | .hbm, ⟨81, _⟩ => ⟨S16x16, .i32⟩
  | .hbm, ⟨82, _⟩ => ⟨S16x16, .i32⟩
  | .hbm, ⟨83, _⟩ => ⟨S16x16, .f32⟩
  | .hbm, ⟨84, _⟩ => ⟨S_, .f32⟩
  | .hbm, ⟨85, _⟩ => ⟨S16x16, .f32⟩
  | .hbm, ⟨86, _⟩ => ⟨S16x16, .f32⟩
  | .hbm, ⟨87, _⟩ => ⟨S_, .f32⟩
  | .hbm, ⟨88, _⟩ => ⟨S16x16, .f32⟩
  | .hbm, ⟨89, _⟩ => ⟨S16x16, .f32⟩
  | .hbm, ⟨90, _⟩ => ⟨S_, .f32⟩
  | .hbm, ⟨91, _⟩ => ⟨S16x16, .f32⟩
  | .hbm, ⟨92, _⟩ => ⟨S16x16, .f32⟩
  | .hbm, ⟨93, _⟩ => ⟨S1x16, .f32⟩
  | .hbm, ⟨94, _⟩ => ⟨S16x16, .f32⟩
  | .hbm, ⟨95, _⟩ => ⟨S16x16, .f32⟩
  | .hbm, ⟨96, _⟩ => ⟨S16x16, .bf16⟩
  | .hbm, ⟨97, _⟩ => ⟨S1x128x16x16384, .bf16⟩
  | .hbm, ⟨98, _⟩ => ⟨S16x1x128x16384, .f32⟩
  | .hbm, ⟨99, _⟩ => ⟨S1x16384x128x16, .f32⟩
  | .hbm, ⟨100, _⟩ => ⟨S1x16384x128x16, .f32⟩
  | .hbm, ⟨101, _⟩ => ⟨S_, .f32⟩
  | .hbm, ⟨102, _⟩ => ⟨S1x16384x128, .f32⟩
  | .hbm, ⟨103, _⟩ => ⟨S64x256x16x8, .f32⟩
  | .hbm, ⟨104, _⟩ => ⟨S_, .f32⟩
  | .hbm, ⟨105, _⟩ => ⟨S256x8, .f32⟩
  | .hbm, ⟨106, _⟩ => ⟨S2048x16384, .bf16⟩
  | .hbm, ⟨107, _⟩ => ⟨S16384x128, .f32⟩
  | .hbm, ⟨108, _⟩ => ⟨S1x16384, .f32⟩
  | .hbm, ⟨109, _⟩ => ⟨S8x256, .f32⟩
  | _, _ => ⟨S1x2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_v42 : Ref sig .tc := ⟨.hbm, 57, rfl⟩
abbrev main_v43 : Ref sig .tc := ⟨.hbm, 58, rfl⟩
abbrev main_c_10 : Ref sig .tc := ⟨.hbm, 59, rfl⟩
abbrev main_v44 : Ref sig .tc := ⟨.hbm, 60, rfl⟩
abbrev main_v45 : Ref sig .tc := ⟨.hbm, 61, rfl⟩
abbrev main_c_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_12 : Ref sig .tc := ⟨.hbm, 66, rfl⟩
abbrev main_v49 : Ref sig .tc := ⟨.hbm, 67, rfl⟩
abbrev main_v50 : Ref sig .tc := ⟨.hbm, 68, rfl⟩
abbrev main_c_13 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_14 : Ref sig .tc := ⟨.hbm, 73, rfl⟩
abbrev main_v54 : Ref sig .tc := ⟨.hbm, 74, rfl⟩
abbrev main_v55 : Ref sig .tc := ⟨.hbm, 75, rfl⟩
abbrev main_c_15 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_16 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_17 : Ref sig .tc := ⟨.hbm, 84, rfl⟩
abbrev main_v62 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_cst_19 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_20 : Ref sig .tc := ⟨.hbm, 101, rfl⟩
abbrev main_v76 : Ref sig .tc := ⟨.hbm, 102, rfl⟩
abbrev main_v77 : Ref sig .tc := ⟨.hbm, 103, rfl⟩
abbrev main_cst_21 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]
-- ==== Quant.lean ====
abbrev S2048x16384 : Shape := ⟨2, ![2048, 16384]⟩
abbrev S16384x128 : Shape := ⟨2, ![16384, 128]⟩
abbrev S8x256 : Shape := ⟨2, ![8, 256]⟩
abbrev S16 : Shape := ⟨1, ![16]⟩
abbrev S1x16384x2048 : Shape := ⟨3, ![1, 16384, 2048]⟩
abbrev S16x16 : Shape := ⟨2, ![16, 16]⟩
abbrev S256 : Shape := ⟨1, ![256]⟩
abbrev S256x256 : Shape := ⟨2, ![256, 256]⟩
abbrev S16384x2048 : Shape := ⟨2, ![16384, 2048]⟩
abbrev S_ : Shape := ⟨0, ![]⟩
abbrev S1x16 : Shape := ⟨2, ![1, 16]⟩
abbrev S1x16x1x16 : Shape := ⟨4, ![1, 16, 1, 16]⟩
abbrev S16x1x16x1 : Shape := ⟨4, ![16, 1, 16, 1]⟩
abbrev S16x16x16x16 : Shape := ⟨4, ![16, 16, 16, 16]⟩
abbrev S256x1 : Shape := ⟨2, ![256, 1]⟩
abbrev S16384x1024 : Shape := ⟨2, ![16384, 1024]⟩
abbrev S8x128 : Shape := ⟨2, ![8, 128]⟩
abbrev S2048x256 : Shape := ⟨2, ![2048, 256]⟩
abbrev S256x128 : Shape := ⟨2, ![256, 128]⟩
abbrev S256x2048 : Shape := ⟨2, ![256, 2048]⟩
abbrev S256x1024 : Shape := ⟨2, ![256, 1024]⟩
abbrev S1x8x256 : Shape := ⟨3, ![1, 8, 256]⟩
abbrev S1 : Shape := ⟨1, ![1]⟩
abbrev S1x1x1 : Shape := ⟨3, ![1, 1, 1]⟩
abbrev S1x1 : Shape := ⟨2, ![1, 1]⟩
abbrev S256x128x1 : Shape := ⟨3, ![256, 128, 1]⟩
abbrev S64x128 : Shape := ⟨2, ![64, 128]⟩

abbrev nBuf : Space → Nat
  | .hbm => 40
  | .vmem => 14
  | .smem => 0
  | _ => 0

abbrev bufTy : (tb : Table) → Fin (tcTables nBuf tb) → BufTy
  | .hbm, ⟨0, _⟩ => ⟨S2048x16384, .bf16⟩
  | .hbm, ⟨1, _⟩ => ⟨S16384x128, .f32⟩
  | .hbm, ⟨2, _⟩ => ⟨S8x256, .f32⟩
  | .hbm, ⟨3, _⟩ => ⟨S16, .f32⟩
  | .hbm, ⟨4, _⟩ => ⟨S1x16384x2048, .i8⟩
  | .hbm, ⟨5, _⟩ => ⟨S16x16, .f32⟩
  | .hbm, ⟨6, _⟩ => ⟨S256, .i32⟩
  | .hbm, ⟨7, _⟩ => ⟨S256, .i1⟩
  | .hbm, ⟨8, _⟩ => ⟨S256x256, .bf16⟩
  | .hbm, ⟨9, _⟩ => ⟨S16384x2048, .i8⟩
  | .hbm, ⟨10, _⟩ => ⟨S_, .f32⟩
  | .hbm, ⟨11, _⟩ => ⟨S16x16, .f32⟩
  | .hbm, ⟨12, _⟩ => ⟨S16x16, .f32⟩
  | .hbm, ⟨13, _⟩ => ⟨S1x16, .f32⟩
  | .hbm, ⟨14, _⟩ => ⟨S16x16, .f32⟩
  | .hbm, ⟨15, _⟩ => ⟨S16x16, .f32⟩
  | .hbm, ⟨16, _⟩ => ⟨S16x16, .bf16⟩
  | .hbm, ⟨17, _⟩ => ⟨S16x16, .i32⟩
  | .hbm, ⟨18, _⟩ => ⟨S16x16, .i32⟩
  | .hbm, ⟨19, _⟩ => ⟨S_, .i32⟩
  | .hbm, ⟨20, _⟩ => ⟨S16x16, .i32⟩
  | .hbm, ⟨21, _⟩ => ⟨S16x16, .i32⟩
  | .hbm, ⟨22, _⟩ => ⟨S16x16, .i1⟩
  | .hbm, ⟨23, _⟩ => ⟨S16x16, .bf16⟩
  | .hbm, ⟨24, _⟩ => ⟨S16x16, .bf16⟩
  | .hbm, ⟨25, _⟩ => ⟨S1x16x1x16, .bf16⟩
  | .hbm, ⟨26, _⟩ => ⟨S16x1x16x1, .bf16⟩
  | .hbm, ⟨27, _⟩ => ⟨S16x16x16x16, .bf16⟩
  | .hbm, ⟨28, _⟩ => ⟨S16x16x16x16, .bf16⟩
  | .hbm, ⟨29, _⟩ => ⟨S16x16x16x16, .bf16⟩
  | .hbm, ⟨30, _⟩ => ⟨S256x256, .bf16⟩
  | .hbm, ⟨31, _⟩ => ⟨S_, .i32⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S256x1, .i32⟩
  | .hbm, ⟨36, _⟩ => ⟨S256x256, .bf16⟩
  | .hbm, ⟨37, _⟩ => ⟨S16384x1024, .i8⟩
  | .hbm, ⟨38, _⟩ => ⟨S16384x128, .fp8e4m3⟩
  | .hbm, ⟨39, _⟩ => ⟨S8x128, .f32⟩
  | .local _ .vmem, ⟨0, _⟩ => ⟨S2048x256, .bf16⟩
  | .local _ .vmem, ⟨1, _⟩ => ⟨S2048x256, .bf16⟩
  | .local _ .vmem, ⟨2, _⟩ => ⟨S256x128, .f32⟩
  | .local _ .vmem, ⟨3, _⟩ => ⟨S256x128, .f32⟩
  | .local _ .vmem, ⟨4, _⟩ => ⟨S256x2048, .i8⟩
  | .local _ .vmem, ⟨5, _⟩ => ⟨S256x2048, .i8⟩
  | .local _ .vmem, ⟨6, _⟩ => ⟨S8x256, .f32⟩
  | .local _ .vmem, ⟨7, _⟩ => ⟨S256x256, .bf16⟩
  | .local _ .vmem, ⟨8, _⟩ => ⟨S256x256, .bf16⟩
  | .local _ .vmem, ⟨9, _⟩ => ⟨S256x1024, .i8⟩
  | .local _ .vmem, ⟨10, _⟩ => ⟨S256x1024, .i8⟩
  | .local _ .vmem, ⟨11, _⟩ => ⟨S256x128, .fp8e4m3⟩
  | .local _ .vmem, ⟨12, _⟩ => ⟨S256x128, .fp8e4m3⟩
  | .local _ .vmem, ⟨13, _⟩ => ⟨S8x128, .f32⟩
  | _, _ => ⟨S2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_c : Ref sig .tc := ⟨.hbm, 6, rfl⟩
abbrev main_c_0 : Ref sig .tc := ⟨.hbm, 7, rfl⟩
abbrev main_cst_1 : Ref sig .tc := ⟨.hbm, 8, rfl⟩
abbrev main_v0 : Ref sig .tc := ⟨.hbm, 9, rfl⟩
abbrev main_cst_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [BitOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== QuantReference.lean ====
abbrev S2048x16384 : Shape := ⟨2, ![2048, 16384]⟩
abbrev S16384x128 : Shape := ⟨2, ![16384, 128]⟩
abbrev S8x256 : Shape := ⟨2, ![8, 256]⟩
abbrev S16 : Shape := ⟨1, ![16]⟩
abbrev S1x16384x2048 : Shape := ⟨3, ![1, 16384, 2048]⟩
abbrev S8x128 : Shape := ⟨2, ![8, 128]⟩
abbrev S1x8x256 : Shape := ⟨3, ![1, 8, 256]⟩
abbrev S1 : Shape := ⟨1, ![1]⟩
abbrev S1x1x1 : Shape := ⟨3, ![1, 1, 1]⟩
abbrev S1x1 : Shape := ⟨2, ![1, 1]⟩

abbrev nBuf : Space → Nat
  | .hbm => 7
  | .vmem => 4
  | .smem => 0
  | _ => 0

abbrev bufTy : (tb : Table) → Fin (tcTables nBuf tb) → BufTy
  | .hbm, ⟨0, _⟩ => ⟨S2048x16384, .bf16⟩
  | .hbm, ⟨1, _⟩ => ⟨S16384x128, .f32⟩
  | .hbm, ⟨2, _⟩ => ⟨S8x256, .f32⟩
  | .hbm, ⟨3, _⟩ => ⟨S16, .f32⟩
  | .hbm, ⟨4, _⟩ => ⟨S1x16384x2048, .i8⟩
  | .hbm, ⟨5, _⟩ => ⟨S16384x128, .fp8e4m3⟩
  | .hbm, ⟨6, _⟩ => ⟨S8x128, .f32⟩
  | .local _ .vmem, ⟨0, _⟩ => ⟨S16384x128, .f32⟩
  | .local _ .vmem, ⟨1, _⟩ => ⟨S8x256, .f32⟩
  | .local _ .vmem, ⟨2, _⟩ => ⟨S16384x128, .fp8e4m3⟩
  | .local _ .vmem, ⟨3, _⟩ => ⟨S8x128, .f32⟩
  | _, _ => ⟨S2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Gelu.lean ====
/- The two forms of the tanh-approximated GELU's derivative, at extended reals: the kernel's, through the logistic
   function, and the reference's, through the hyperbolic tangent. -/
module

public import Idealize.ShloMosaic.PureOps.Ideal
public import Idealize.ShloMosaic.Lib.Pipeline.ValueKit

@[expose] public section

noncomputable section

open Idealize.ShloMosaic

namespace Cert.Gelu

/-- The f32 nearest `√(2/π)`. -/
theorem k_eq : Ideal.ofBits .f32 0x3F4C422A#32 = ((13386282 / 16777216 : ℝ) : EReal) := by
  simp [Ideal.ofBits, Ideal.ieee, -EReal.coe_mul]; norm_num
/-- Twice that number. -/
theorem k2_eq : Ideal.ofBits .f32 0x3FCC422A#32 = ((13386282 / 8388608 : ℝ) : EReal) := by
  simp [Ideal.ofBits, Ideal.ieee, -EReal.coe_mul]; norm_num
/-- The f32 nearest 0.044715. -/
theorem c_eq : Ideal.ofBits .f32 0x3D372713#32 = ((12003091 / 268435456 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem three_eq : Ideal.ofBits .f32 0x40400000#32 = ((3 : ℝ) : EReal) := by
  simp [Ideal.ofBits, Ideal.ieee, -EReal.coe_mul]; norm_num
theorem six_eq : Ideal.ofBits .f32 0x40C00000#32 = ((6 : ℝ) : EReal) := by
  simp [Ideal.ofBits, Ideal.ieee, -EReal.coe_mul]; norm_num

/-- The derivative as the kernel computes it, `kc` the product of the two constants. -/
def gelK (kc u : EReal) : EReal :=
  Ideal.logistic (u * (u * kc * u * Ideal.ofBits .f32 0x40000000#32 + Ideal.ofBits .f32 0x3FCC422A#32))
    * (1 + u * (u * kc * u * Ideal.ofBits .f32 0x40C00000#32 + Ideal.ofBits .f32 0x3FCC422A#32)
      * (1 - Ideal.logistic (u * (u * kc * u * Ideal.ofBits .f32 0x40000000#32 + Ideal.ofBits .f32 0x3FCC422A#32))))

/-- The derivative as the reference computes it. -/
def gelR (u : EReal) : EReal :=
  Ideal.ofBits .f32 0x3F000000#32 * (1 + Ideal.tanh (Ideal.ofBits .f32 0x3F4C422A#32 * (u + Ideal.ofBits .f32 0x3D372713#32 * (u * u * u))))
    + Ideal.ofBits .f32 0x3F000000#32 * u
      * (1 - Ideal.tanh (Ideal.ofBits .f32 0x3F4C422A#32 * (u + Ideal.ofBits .f32 0x3D372713#32 * (u * u * u)))
          * Ideal.tanh (Ideal.ofBits .f32 0x3F4C422A#32 * (u + Ideal.ofBits .f32 0x3D372713#32 * (u * u * u))))
      * Ideal.ofBits .f32 0x3F4C422A#32
      * (1 + Ideal.ofBits .f32 0x40400000#32 * (Ideal.ofBits .f32 0x3D372713#32 * u * u))

/-- The logistic function of `2 y` is `(1 + tanh y) / 2`. -/
theorem logistic_two_mul (y : ℝ) : (1 + Real.exp (-(2 * y)))⁻¹ = (1 + Real.tanh y) / 2 := by
  have hc : Real.cosh y ≠ 0 := (Real.cosh_pos y).ne'
  have h1 : (1 + Real.exp (-(2 * y))) ≠ 0 := by positivity
  rw [Real.tanh_eq_sinh_div_cosh]
  have e1 : Real.exp (-(2 * y)) = Real.exp (-y) * Real.exp (-y) := by rw [← Real.exp_add]; ring_nf
  have e2 : Real.exp y * Real.exp (-y) = 1 := by rw [← Real.exp_add]; simp
  rw [inv_eq_iff_eq_inv, inv_div, eq_div_iff (by
    have : 1 + Real.sinh y / Real.cosh y = Real.exp y / Real.cosh y := by
      rw [← Real.cosh_add_sinh]; field_simp
    rw [this]; positivity)]
  have : 1 + Real.sinh y / Real.cosh y = Real.exp y / Real.cosh y := by
    rw [← Real.cosh_add_sinh]; field_simp
  rw [this, e1, Real.cosh_eq]
  have h3 : Real.exp y + Real.exp (-y) ≠ 0 := by positivity
  field_simp
  linear_combination (Real.exp (-y)) * e2

/-- The two forms agree on every extended real. -/
theorem gel_eq (u : EReal) : gelK ((80338380498831 / 2251799813685248 : ℝ) : EReal) u = gelR u := by
  unfold gelK gelR
  rw [k_eq, k2_eq, c_eq, half_eq, two_eq, three_eq, six_eq]
  induction u with
  | bot =>
    have a1 : (⊥ : EReal) * ((80338380498831 / 2251799813685248 : ℝ) : EReal) = ⊥ := EReal.bot_mul_coe_of_pos (by norm_num)
    have a2 : (⊤ : EReal) * ((2 : ℝ) : EReal) = ⊤ := EReal.top_mul_coe_of_pos (by norm_num)
    have a3 : (⊤ : EReal) * ((6 : ℝ) : EReal) = ⊤ := EReal.top_mul_coe_of_pos (by norm_num)
    have a4 : ((12003091 / 268435456 : ℝ) : EReal) * ⊥ = ⊥ := EReal.coe_mul_bot_of_pos (by norm_num)
    have a5 : ((13386282 / 16777216 : ℝ) : EReal) * ⊥ = ⊥ := EReal.coe_mul_bot_of_pos (by norm_num)
    have a6 : (1 : EReal) + -1 = 0 := by rw [← EReal.coe_one, ← EReal.coe_neg, ← EReal.coe_add]; simp
    have a7 : (1 : EReal) - -1 * -1 = 0 := by
      rw [← EReal.coe_one, ← EReal.coe_neg, ← EReal.coe_mul, ← EReal.coe_sub]; simp
    simp only [a1, a2, a3, a4, a5, a6, a7, EReal.bot_mul_bot, EReal.top_mul_bot, EReal.top_add_coe, EReal.bot_mul_top, EReal.bot_add,
      Ideal.logistic_bot, Ideal.tanh_bot, mul_zero, zero_mul, zero_add]
  | top =>
    have a1 : (⊤ : EReal) * ((80338380498831 / 2251799813685248 : ℝ) : EReal) = ⊤ := EReal.top_mul_coe_of_pos (by norm_num)
    have a2 : (⊤ : EReal) * ((2 : ℝ) : EReal) = ⊤ := EReal.top_mul_coe_of_pos (by norm_num)
    have a3 : (⊤ : EReal) * ((6 : ℝ) : EReal) = ⊤ := EReal.top_mul_coe_of_pos (by norm_num)
    have a4 : ((12003091 / 268435456 : ℝ) : EReal) * ⊤ = ⊤ := EReal.coe_mul_top_of_pos (by norm_num)
    have a5 : ((13386282 / 16777216 : ℝ) : EReal) * ⊤ = ⊤ := EReal.coe_mul_top_of_pos (by norm_num)
    have a6 : (1 : EReal) - 1 = 0 := by rw [← EReal.coe_one, ← EReal.coe_sub]; simp
    have a7 : ((1 / 2 : ℝ) : EReal) * (1 + 1) = 1 := by
      rw [← EReal.coe_one, ← EReal.coe_add, ← EReal.coe_mul]; norm_num
    simp only [a1, a2, a3, a4, a5, a6, a7, EReal.top_mul_top, EReal.top_add_coe, EReal.top_add_top,
      Ideal.logistic_top, Ideal.tanh_top, mul_zero, zero_mul, add_zero, mul_one]
  | coe r =>
    have h := logistic_two_mul (13386282 / 16777216 * (r + 12003091 / 268435456 * (r * r * r)))
    simp only [← EReal.coe_mul, ← EReal.coe_add, ← EReal.coe_one, ← EReal.coe_sub, Ideal.logistic_coe, Ideal.tanh_coe]
    rw [show r * (r * (80338380498831 / 2251799813685248) * r * 2 + 13386282 / 8388608) = 2 * (13386282 / 16777216 * (r + 12003091 / 268435456 * (r * r * r))) by ring, h]
    congr 1
    ring

end Cert.Gelu

end
-- ==== Proof.Block.lean ====
/- One grid point of the kernel, at extended reals: what the body leaves in each output's buffer, as functions of the
   three input blocks. The block's eight tiles of 256 rows go through one and the same computation. -/
module

public import proofs.«01_k».proof.Proof.Gen.KernelIdeal.Value
public import proofs.«01_k».proof.Proof.Gelu
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Block

open Cert.KernelIdeal Cert.KernelIdeal.Gen

/-- Tile `k` of a block: its rows `256 k` to `256 k + 255`. -/
def tile (k : Fin 8) (X : Vec Ideal S2048x256 .bf16) : Vec Ideal S256x256 .bf16 :=
  fun j => X (ix2 ⟨(k : ℕ) * 256 + j 0, by idx_bounds; omega⟩ (j 1))

theorem tile_eq (k : Fin 8) (X : Vec Ideal S2048x256 .bf16) (x : S256x256.Idx) (y : S2048x256.Idx)
    (h0 : (y 0 : ℕ) = (k : ℕ) * 256 + x 0) (h1 : (y 1 : ℕ) = x 1) : tile k X x = X y := by
  unfold tile
  congr 1
  funext a
  fin_cases a
  · exact Fin.ext h0.symm
  · exact Fin.ext h1.symm

theorem ld0 (X : Vec Ideal S2048x256 .bf16) : View.ld X (Rect.unit ![0, 0] ![256, 256] inb_S2048x256_S256x256_0_0) = tile 0 X := by
  funext j; pointwise [tile]; blk_ext
theorem ld1 (X : Vec Ideal S2048x256 .bf16) : View.ld X (Rect.unit ![256, 0] ![256, 256] inb_S2048x256_S256x256_256_0) = tile 1 X := by
  funext j; pointwise [tile]; blk_ext
theorem ld2 (X : Vec Ideal S2048x256 .bf16) : View.ld X (Rect.unit ![512, 0] ![256, 256] inb_S2048x256_S256x256_512_0) = tile 2 X := by
  funext j; pointwise [tile]; blk_ext
theorem ld3 (X : Vec Ideal S2048x256 .bf16) : View.ld X (Rect.unit ![768, 0] ![256, 256] inb_S2048x256_S256x256_768_0) = tile 3 X := by
  funext j; pointwise [tile]; blk_ext
theorem ld4 (X : Vec Ideal S2048x256 .bf16) : View.ld X (Rect.unit ![1024, 0] ![256, 256] inb_S2048x256_S256x256_1024_0) = tile 4 X := by
  funext j; pointwise [tile]; blk_ext
theorem ld5 (X : Vec Ideal S2048x256 .bf16) : View.ld X (Rect.unit ![1280, 0] ![256, 256] inb_S2048x256_S256x256_1280_0) = tile 5 X := by
  funext j; pointwise [tile]; blk_ext
theorem ld6 (X : Vec Ideal S2048x256 .bf16) : View.ld X (Rect.unit ![1536, 0] ![256, 256] inb_S2048x256_S256x256_1536_0) = tile 6 X := by
  funext j; pointwise [tile]; blk_ext
theorem ld7 (X : Vec Ideal S2048x256 .bf16) : View.ld X (Rect.unit ![1792, 0] ![256, 256] inb_S2048x256_S256x256_1792_0) = tile 7 X := by
  funext j; pointwise [tile]; blk_ext

/-- The named constant is the product of the two f32 constants of the reference. -/
theorem kc_eq : Named.named (F := Ideal) κ "gelu_kc" (φ := .f32) 0x3D122279#32 = ((80338380498831 / 2251799813685248 : ℝ) : EReal) :=
  IdealRules.named_const.ideal_named_scalar _ _ _ _ rfl

/-- A tile's gradient at an index. -/
theorem dx_at (p x : Vec Ideal S256x256 .bf16) (j : S256x256.Idx) :
    k0_pay3 (F := Ideal) p x j = x j * Cert.Gelu.gelR (p j) := by
  rw [← Cert.Gelu.gel_eq, ← kc_eq]
  pointwise [k0_pay3]
  rfl

/-- A chain of sixteen maxima lies below a bound exactly when each of its members does. -/
theorem max16 (g : Fin 16 → EReal) (z : EReal) : max (max (max (max (max (max (max (max (max (max (max (max (max (max (max (g 0) (g 1)) (g 2)) (g 3)) (g 4)) (g 5)) (g 6)) (g 7)) (g 8)) (g 9)) (g 10)) (g 11)) (g 12)) (g 13)) (g 14)) (g 15) ≤ z ↔ ∀ i, g i ≤ z := by
  simp only [max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ i
    fin_cases i <;> assumption
  · intro H
    exact ⟨⟨⟨⟨⟨⟨⟨⟨⟨⟨⟨⟨⟨⟨⟨H 0, H 1⟩, H 2⟩, H 3⟩, H 4⟩, H 5⟩, H 6⟩, H 7⟩, H 8⟩, H 9⟩, H 10⟩, H 11⟩, H 12⟩, H 13⟩, H 14⟩, H 15⟩

/-- A tile's product with the stacked matrix. -/
def wB (k : Fin 8) (R : Vec Ideal S272x256 .bf16) (P X : Vec Ideal S2048x256 .bf16) : FVec Ideal S272x256 .f32 :=
  k0_pay4 (tile k P) (tile k X) R

/-- A tile's block maxima: sixteen blocks, one per row. -/
def mB (k : Fin 8) (R : Vec Ideal S272x256 .bf16) (P X : Vec Ideal S2048x256 .bf16) : FVec Ideal S16x256 .f32 :=
  k0_pay6 (wB k R P X) (k0_pay5 (tile k P) (tile k X) R)

/-- The block's 128 rows of maxima. -/
def amB (R : Vec Ideal S272x256 .bf16) (P X : Vec Ideal S2048x256 .bf16) : FVec Ideal S128x256 .f32 :=
  concatenate S128x256 0 [⟨S16x256, mB 0 R P X⟩, ⟨S16x256, mB 1 R P X⟩, ⟨S16x256, mB 2 R P X⟩, ⟨S16x256, mB 3 R P X⟩,
    ⟨S16x256, mB 4 R P X⟩, ⟨S16x256, mB 5 R P X⟩, ⟨S16x256, mB 6 R P X⟩, ⟨S16x256, mB 7 R P X⟩] concatenates_S16x256_S16x256_S16x256_S16x256_S16x256_S16x256_S16x256_S16x256_S128x256_d0

/-- The block's column sums, accumulated tile by tile from zero. -/
def biB (R : Vec Ideal S272x256 .bf16) (P X : Vec Ideal S2048x256 .bf16) : FVec Ideal S1x256 .f32 :=
  k0_pay65 (k0_pay7 (k0_pay7 (k0_pay7 (k0_pay7 (k0_pay7 (k0_pay7 (k0_pay7 k0_pay2 (wB 0 R P X)) (wB 1 R P X)) (wB 2 R P X)) (wB 3 R P X)) (wB 4 R P X)) (wB 5 R P X)) (wB 6 R P X)) (wB 7 R P X)

/-- The group maxima after a block: the larger of what was there and the block's rows `r`, `r + 8`, …, `r + 120`. -/
def gmStep (A : FVec Ideal S128x256 .f32) (prev : FVec Ideal S8x256 .f32) : FVec Ideal S8x256 .f32 :=
  maximumf (shapeCast S8x256 prev shapeCasts_S8x256_S8x256) (maximumf (maximumf (maximumf (maximumf (maximumf (maximumf (maximumf (maximumf (maximumf (maximumf (maximumf (maximumf (maximumf (maximumf (maximumf (extractStridedSlice S8x256 ![0, 0] A slices_S128x256_o0_0_S8x256) (extractStridedSlice S8x256 ![8, 0] A slices_S128x256_o8_0_S8x256)) (extractStridedSlice S8x256 ![16, 0] A slices_S128x256_o16_0_S8x256)) (extractStridedSlice S8x256 ![24, 0] A slices_S128x256_o24_0_S8x256)) (extractStridedSlice S8x256 ![32, 0] A slices_S128x256_o32_0_S8x256)) (extractStridedSlice S8x256 ![40, 0] A slices_S128x256_o40_0_S8x256)) (extractStridedSlice S8x256 ![48, 0] A slices_S128x256_o48_0_S8x256)) (extractStridedSlice S8x256 ![56, 0] A slices_S128x256_o56_0_S8x256)) (extractStridedSlice S8x256 ![64, 0] A slices_S128x256_o64_0_S8x256)) (extractStridedSlice S8x256 ![72, 0] A slices_S128x256_o72_0_S8x256)) (extractStridedSlice S8x256 ![80, 0] A slices_S128x256_o80_0_S8x256)) (extractStridedSlice S8x256 ![88, 0] A slices_S128x256_o88_0_S8x256)) (extractStridedSlice S8x256 ![96, 0] A slices_S128x256_o96_0_S8x256)) (extractStridedSlice S8x256 ![104, 0] A slices_S128x256_o104_0_S8x256)) (extractStridedSlice S8x256 ![112, 0] A slices_S128x256_o112_0_S8x256)) (extractStridedSlice S8x256 ![120, 0] A slices_S128x256_o120_0_S8x256))

variable (m : (ℓ : Loc nD τ sig) → Buf (Elt Ideal) ℓ)

/-- What a point leaves in the block-maxima buffer. -/
theorem outs_am (c : Dev nD) (t : Fin cfg0.N) : (outsAt0 m c t.val t.isLt).2.1
    = transpose S256x128 [1, 0] (amB (iblk m c 2 t) (iblk m c 1 t) (iblk m c 0 t)) transposes_S128x256_p1_0_S256x128 := by
  by_cases h : t.val % 64 = 0
  · rw [outsAt0_A m c t h]; frame_out
    simp only [ld0, ld1, ld2, ld3, ld4, ld5, ld6, ld7]
    rfl
  · rw [outsAt0_B m c t h]; frame_out
    simp only [ld0, ld1, ld2, ld3, ld4, ld5, ld6, ld7]
    rfl

/-- What a point leaves in the column-sum buffer. -/
theorem outs_bi (c : Dev nD) (t : Fin cfg0.N) : (outsAt0 m c t.val t.isLt).2.2.1
    = biB (iblk m c 2 t) (iblk m c 1 t) (iblk m c 0 t) := by
  by_cases h : t.val % 64 = 0
  · rw [outsAt0_A m c t h]; frame_out
    simp only [ld0, ld1, ld2, ld3, ld4, ld5, ld6, ld7]
    rfl
  · rw [outsAt0_B m c t h]; frame_out
    simp only [ld0, ld1, ld2, ld3, ld4, ld5, ld6, ld7]
    rfl

/-- What the first point leaves in the group-maxima buffer, and what a later one does. -/
theorem outs_gm_A (c : Dev nD) (t : Fin cfg0.N) (h : t.val % 64 = 0) : (outsAt0 m c t.val t.isLt).2.2.2
    = gmStep (amB (iblk m c 2 t) (iblk m c 1 t) (iblk m c 0 t)) k0_pay1 := by
  rw [outsAt0_A m c t h]; frame_out
  simp only [ld0, ld1, ld2, ld3, ld4, ld5, ld6, ld7]
  rfl

theorem outs_gm_B (c : Dev nD) (t : Fin cfg0.N) (h : ¬ t.val % 64 = 0) : (outsAt0 m c t.val t.isLt).2.2.2
    = gmStep (amB (iblk m c 2 t) (iblk m c 1 t) (iblk m c 0 t)) (outsAt0 m c (t.val - 1) (Nat.lt_of_le_of_lt (Nat.sub_le _ _) t.isLt)).2.2.2 := by
  rw [outsAt0_B m c t h]; frame_out
  simp only [ld0, ld1, ld2, ld3, ld4, ld5, ld6, ld7]
  rfl

theorem gmStep_le (A : FVec Ideal S128x256 .f32) (prev : FVec Ideal S8x256 .f32) (r : Fin 8) (l : Fin 256) (z : EReal) :
    gmStep A prev (ix2 r l) ≤ z ↔ prev (ix2 r l) ≤ z ∧ ∀ q : Fin 16, A (ix2 ⟨(q : ℕ) * 8 + r, by omega⟩ l) ≤ z := by
  have e : ∀ (i : Fin 16) (a : ℕ) (h : a < 128), a = (i : ℕ) * 8 + r → A (ix2 ⟨a, h⟩ l) = A (ix2 ⟨(i : ℕ) * 8 + r, by omega⟩ l) := by
    intro i a h ha; subst ha; rfl
  pointwise [gmStep]
  rw [max_le_iff, e 0 r (by omega) (by simp), e 1 ((8 : ℕ) + r) (by omega) (by simp), e 2 ((16 : ℕ) + r) (by omega) (by simp), e 3 ((24 : ℕ) + r) (by omega) (by simp), e 4 ((32 : ℕ) + r) (by omega) (by simp), e 5 ((40 : ℕ) + r) (by omega) (by simp), e 6 ((48 : ℕ) + r) (by omega) (by simp), e 7 ((56 : ℕ) + r) (by omega) (by simp), e 8 ((64 : ℕ) + r) (by omega) (by simp), e 9 ((72 : ℕ) + r) (by omega) (by simp), e 10 ((80 : ℕ) + r) (by omega) (by simp), e 11 ((88 : ℕ) + r) (by omega) (by simp), e 12 ((96 : ℕ) + r) (by omega) (by simp), e 13 ((104 : ℕ) + r) (by omega) (by simp), e 14 ((112 : ℕ) + r) (by omega) (by simp), e 15 ((120 : ℕ) + r) (by omega) (by simp)]
  exact and_congr_right fun _ => max16 (fun i : Fin 16 => A (ix2 ⟨(i : ℕ) * 8 + r, by omega⟩ l)) z

/-- What a point leaves in the gradient buffer. -/
theorem outs_dx (c : Dev nD) (t : Fin cfg0.N) (y : S2048x256.Idx) : (outsAt0 m c t.val t.isLt).1 y
    = (show FVec Ideal S2048x256 .bf16 from iblk m c 0 t) y * Cert.Gelu.gelR ((show FVec Ideal S2048x256 .bf16 from iblk m c 1 t) y) := by
  have key : (outsAt0 m c t.val t.isLt).1 = View.canon [
      ⟨Rect.unit ![1792, 0] ![256, 256] inb_S2048x256_S256x256_1792_0, k0_pay3 (tile 7 (iblk m c 1 t)) (tile 7 (iblk m c 0 t))⟩,
      ⟨Rect.unit ![1536, 0] ![256, 256] inb_S2048x256_S256x256_1536_0, k0_pay3 (tile 6 (iblk m c 1 t)) (tile 6 (iblk m c 0 t))⟩,
      ⟨Rect.unit ![1280, 0] ![256, 256] inb_S2048x256_S256x256_1280_0, k0_pay3 (tile 5 (iblk m c 1 t)) (tile 5 (iblk m c 0 t))⟩,
      ⟨Rect.unit ![1024, 0] ![256, 256] inb_S2048x256_S256x256_1024_0, k0_pay3 (tile 4 (iblk m c 1 t)) (tile 4 (iblk m c 0 t))⟩,
      ⟨Rect.unit ![768, 0] ![256, 256] inb_S2048x256_S256x256_768_0, k0_pay3 (tile 3 (iblk m c 1 t)) (tile 3 (iblk m c 0 t))⟩,
      ⟨Rect.unit ![512, 0] ![256, 256] inb_S2048x256_S256x256_512_0, k0_pay3 (tile 2 (iblk m c 1 t)) (tile 2 (iblk m c 0 t))⟩,
      ⟨Rect.unit ![256, 0] ![256, 256] inb_S2048x256_S256x256_256_0, k0_pay3 (tile 1 (iblk m c 1 t)) (tile 1 (iblk m c 0 t))⟩,
      ⟨Rect.unit ![0, 0] ![256, 256] inb_S2048x256_S256x256_0_0, k0_pay3 (tile 0 (iblk m c 1 t)) (tile 0 (iblk m c 0 t))⟩] := by
    by_cases h : t.val % 64 = 0
    · rw [outsAt0_A m c t h]; frame_out
      simp only [ld0, ld1, ld2, ld3, ld4, ld5, ld6, ld7]
      rfl
    · rw [outsAt0_B m c t h]; frame_out
      simp only [ld0, ld1, ld2, ld3, ld4, ld5, ld6, ld7]
      rfl
  rw [key]
  generalize iblk m c 0 t = X
  generalize iblk m c 1 t = P
  canon_tiles x h
  all_goals
    rw [dx_at, tile_eq _ X x y (by simp; omega) (by simp; omega), tile_eq _ P x y (by simp; omega) (by simp; omega)]

theorem wB_at (k : Fin 8) (R : Vec Ideal S272x256 .bf16) (P X : Vec Ideal S2048x256 .bf16) (n : Fin 272) (l : Fin 256) :
    wB k R P X (ix2 n l) = ∑ q : Fin 256, R (ix2 n q) * (X (ix2 ⟨(k : ℕ) * 256 + q, by omega⟩ l) * Cert.Gelu.gelR (P (ix2 ⟨(k : ℕ) * 256 + q, by omega⟩ l))) := by
  pointwise [wB, k0_pay4]
  simp only [dx_at]
  pointwise [tile]

theorem mB_le (k : Fin 8) (R : Vec Ideal S272x256 .bf16) (P X : Vec Ideal S2048x256 .bf16) (n : Fin 16) (l : Fin 256) (z : EReal) :
    mB k R P X (ix2 n l) ≤ z ↔ ∀ i : Fin 16, FloatOps.absf (F := Ideal) (φ := .f32) (wB k R P X (ix2 ⟨(i : ℕ) * 16 + n, by omega⟩ l)) ≤ z := by
  have h5 : k0_pay5 (F := Ideal) (tile k P) (tile k X) R (ix2 n l) = FloatOps.absf (F := Ideal) (φ := .f32) (wB k R P X (ix2 ⟨n, by omega⟩ l)) := by
    pointwise [k0_pay5]
    rfl
  have e : ∀ (i : Fin 16) (a : ℕ) (h : a < 272), a = (i : ℕ) * 16 + n → FloatOps.absf (F := Ideal) (φ := .f32) (wB k R P X (ix2 ⟨a, h⟩ l))
      = FloatOps.absf (F := Ideal) (φ := .f32) (wB k R P X (ix2 ⟨(i : ℕ) * 16 + n, by omega⟩ l)) := by
    intro i a h ha; subst ha; rfl
  rw [mB, k0_pay6]
  pointwise
  rw [h5, e 0 n (by omega) (by simp), e 1 ((16 : ℕ) + n) (by omega) (by simp), e 2 ((32 : ℕ) + n) (by omega) (by simp), e 3 ((48 : ℕ) + n) (by omega) (by simp), e 4 ((64 : ℕ) + n) (by omega) (by simp), e 5 ((80 : ℕ) + n) (by omega) (by simp), e 6 ((96 : ℕ) + n) (by omega) (by simp), e 7 ((112 : ℕ) + n) (by omega) (by simp), e 8 ((128 : ℕ) + n) (by omega) (by simp), e 9 ((144 : ℕ) + n) (by omega) (by simp), e 10 ((160 : ℕ) + n) (by omega) (by simp), e 11 ((176 : ℕ) + n) (by omega) (by simp), e 12 ((192 : ℕ) + n) (by omega) (by simp), e 13 ((208 : ℕ) + n) (by omega) (by simp), e 14 ((224 : ℕ) + n) (by omega) (by simp), e 15 ((240 : ℕ) + n) (by omega) (by simp)]
  exact max16 (fun i : Fin 16 => FloatOps.absf (F := Ideal) (φ := .f32) (wB k R P X (ix2 ⟨(i : ℕ) * 16 + n, by omega⟩ l))) z

theorem biB_at (R : Vec Ideal S272x256 .bf16) (P X : Vec Ideal S2048x256 .bf16) (l : Fin 256) :
    biB R P X (ix2 0 l) = ∑ k : Fin 8, wB k R P X (ix2 256 l) := by
  pointwise [biB, k0_pay65, k0_pay7, k0_pay2]
  simp [Fin.sum_univ_eight]

/-- Row `n` of the stacked maxima is row `n % 16` of tile `n / 16`'s. -/
theorem amB_at (R : Vec Ideal S272x256 .bf16) (P X : Vec Ideal S2048x256 .bf16) (n : Fin 128) (l : Fin 256) :
    amB R P X (ix2 n l) = mB ⟨(n : ℕ) / 16, by omega⟩ R P X (ix2 ⟨(n : ℕ) % 16, by omega⟩ l) := by
  unfold amB
  generalize hf : (fun k => mB k R P X) = f
  simp only [show ∀ k, mB k R P X = f k from fun k => congrFun hf k]
  pointwise
  have e : ∀ (k k' : Fin 8) (a a' : Fin 16), (k : ℕ) = k' → (a : ℕ) = a' → f k (ix2 a l) = f k' (ix2 a' l) := by
    intro k k' a a' h h'
    rw [Fin.ext h, Fin.ext h']
  split_ifs <;> (apply e <;> simp <;> omega)

end Cert.KernelIdeal.Block

end
-- ==== Proof.Ref.lean ====
/- The reference's results read at an index, at extended reals: the gradient `dx` element by element, the
   sixteen-point transform of each block of sixteen rows, and the maxima of its magnitudes. -/
module

public import proofs.«01_k».proof.Proof.Gen.ReferenceIdeal.Run
public import proofs.«01_k».proof.Proof.Gen.KernelIdeal
public import proofs.«01_k».proof.Proof.Gelu
public import Idealize.ShloMosaic.Lib.Pipeline.ValueKit

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-! ## The reference's terms, over variables -/

/-- A scalar constant spread over the whole activation shape. -/
def refC (b : BitVec 32) : FVec Ideal S1x2048x16384 .f32 :=
  broadcastInDim S1x2048x16384 ![] bcast_S_S1x2048x16384 (constant S_ .f32 b)

/-- The pre-activation in f32. -/
def refU (P : FVec Ideal S1x2048x16384 .bf16) : FVec Ideal S1x2048x16384 .f32 := extf .f32 P bitsLt_bf16_f32

/-- `tanh (K (u + C u³))`. -/
def refT (P : FVec Ideal S1x2048x16384 .bf16) : FVec Ideal S1x2048x16384 .f32 :=
  Host.tanh (mulf (refC 0x3F4C422A#32) (addf (refU P) (mulf (refC 0x3D372713#32) (mulf (mulf (refU P) (refU P)) (refU P)))))

/-- The gradient `dx = x · gelu'(u)` of the reference. -/
def refDx (X P : FVec Ideal S1x2048x16384 .bf16) : FVec Ideal S1x2048x16384 .bf16 :=
  truncf .bf16 (mulf (extf .f32 X bitsLt_bf16_f32) (addf (mulf (refC 0x3F000000#32) (addf (refC 0x3F800000#32) (refT P))) (mulf (mulf (mulf (mulf (refC 0x3F000000#32) (refU P)) (subf (refC 0x3F800000#32) (mulf (refT P) (refT P)))) (refC 0x3F4C422A#32)) (addf (refC 0x3F800000#32) (mulf (refC 0x40400000#32) (mulf (mulf (refC 0x3D372713#32) (refU P)) (refU P))))))) bitsLt_bf16_f32

/-- A small integer spread over the 16 × 16 table. -/
def refN (b : BitVec 32) : IVec S16x16 32 := broadcastInDim S16x16 ![] bcast_S_S16x16 (constantI S_ 32 b)

/-- A scalar constant spread over the 16 × 16 table. -/
def refK (b : BitVec 32) : FVec Ideal S16x16 .f32 := broadcastInDim S16x16 ![] bcast_S_S16x16 (constant S_ .f32 b)

/-- The bitwise conjunction of row and column number. -/
def refIJ : IVec S16x16 32 :=
  andi (broadcastInDim S16x16 ![0, 1] bcast_S16x1_S16x16_0_1 (broadcastInDim S16x1 ![0] bcast_S16_S16x1_0 (iotaInDim S16 32 0))) (broadcastInDim S16x16 ![0, 1] bcast_S1x16_S16x16_0_1 (broadcastInDim S1x16 ![1] bcast_S16_S1x16_1 (iotaInDim S16 32 0)))

/-- The parity of that conjunction's four bits. -/
def refBits : IVec S16x16 32 :=
  andi (addi (addi (addi (andi refIJ (refN 1#32)) (andi (Host.shrsi refIJ (refN 1#32)) (refN 1#32))) (andi (Host.shrsi refIJ (refN 2#32)) (refN 1#32))) (andi (Host.shrsi refIJ (refN 3#32)) (refN 1#32))) (refN 1#32)

/-- The randomised sixteen-point Hadamard matrix of the reference. -/
def refR (S : FVec Ideal S16 .f32) : FVec Ideal S16x16 .bf16 :=
  truncf .bf16 (mulf (mulf (refK 0x3E800000#32) (subf (refK 0x3F800000#32) (mulf (refK 0x40000000#32) (sitofp .f32 refBits)))) (broadcastInDim S16x16 ![0, 1] bcast_S1x16_S16x16_0_1 (broadcastInDim S1x16 ![1] bcast_S16_S1x16_1 S))) bitsLt_bf16_f32

/-- The magnitudes' maxima, one per column and block of sixteen rows, from the gradient and the matrix. -/
def refAm (R : FVec Ideal S16x16 .bf16) (D : FVec Ideal S1x2048x16384 .bf16) : FVec Ideal S1x16384x128 .f32 :=
  Host.reduce FloatOps.maximumf (Host.absf (transpose S1x16384x128x16 [1, 3, 2, 0] (Host.dotGeneral dot_S16x16_S1x128x16x16384_S16x1x128x16384_1_2_0_013_n_n none R (shapeCast _ D shapeCasts_S1x2048x16384_S1x128x16x16384)) transposes_S16x1x128x16384_S1x16384x128x16_1_3_2_0)) (constant S_ .f32 0xFF800000#32) reducesTo_S1x16384x128x16_S1x16384x128_d3 h_S_

/-- The group maxima from the block maxima. -/
def refGm (A : FVec Ideal S1x16384x128 .f32) : FVec Ideal S8x256 .f32 :=
  transpose S8x256 [1, 0] (Host.reduce FloatOps.maximumf (shapeCast _ A shapeCasts_S1x16384x128_S64x256x16x8) (constant S_ .f32 0xFF800000#32) reducesTo_S64x256x16x8_S256x8_d0_2 h_S_) transposes_S256x8_S8x256_1_0

/-- The column sums of the gradient. -/
def refBias (D : FVec Ideal S1x2048x16384 .bf16) : FVec Ideal S1x16384 .f32 :=
  shapeCast _ (Host.reduceAdd (extf .f32 D bitsLt_bf16_f32) (constant S_ .f32 0x00000000#32) reducesTo_S1x2048x16384_S16384_d0_1 h_S_) shapeCasts_S16384_S1x16384

variable (m : (ℓ : Loc nD τ sig) → Buf (Elt Ideal) ℓ)

/-- The block maxima the reference returns. -/
theorem res1_eq (c : Dev nD) : res_main_v80 (F := Ideal) m c
    = shapeCast _ (refAm (refR (m ((c.tc : Thread nD τ).loc main_arg2))) (refDx (m ((c.tc : Thread nD τ).loc main_arg0)) (m ((c.tc : Thread nD τ).loc main_arg1)))) shapeCasts_S1x16384x128_S16384x128 := rfl

/-- The group maxima the reference returns. -/
theorem res3_eq (c : Dev nD) : res_main_v82 (F := Ideal) m c
    = refGm (refAm (refR (m ((c.tc : Thread nD τ).loc main_arg2))) (refDx (m ((c.tc : Thread nD τ).loc main_arg0)) (m ((c.tc : Thread nD τ).loc main_arg1)))) := rfl

/-- The reference's gradient at an index. -/
theorem refDx_at (X P : FVec Ideal S1x2048x16384 .bf16) (j : S1x2048x16384.Idx) :
    refDx X P j = X j * Cert.Gelu.gelR (P j) := by
  pointwise [refDx, refT, refU, refC]
  rfl

/-- The signs of the Hadamard table, from the parity and from the kernel's table of constants, entry by entry. -/
theorem sign_table : ∀ i j : Fin 16,
    (refBits (ix2 i j) = 0#32 ∧ Cert.KernelIdeal.lit0 (Cert.KernelIdeal.S16x16.rowMajor (ix2 i j)) = 0x3F800000#32)
    ∨ (refBits (ix2 i j) = 1#32 ∧ Cert.KernelIdeal.lit0 (Cert.KernelIdeal.S16x16.rowMajor (ix2 i j)) = 0xBF800000#32) := by
  decide +kernel

/-- The reference's matrix at an index, its sign the kernel's table entry. -/
theorem refR_at (S : FVec Ideal S16 .f32) (i j : Fin 16) : refR S (ix2 i j)
    = Ideal.ofBits .f32 0x3E800000#32
      * Ideal.ofBits .f32 (Cert.KernelIdeal.lit0 (Cert.KernelIdeal.S16x16.rowMajor (ix2 i j))) * S (ix1 j) := by
  have h : (1 : EReal) - Ideal.ofBits .f32 0x40000000#32 * FloatOps.sitofp (F := Ideal) FTy.f32 (refBits (ix2 i j))
      = Ideal.ofBits .f32 (Cert.KernelIdeal.lit0 (Cert.KernelIdeal.S16x16.rowMajor (ix2 i j))) := by
    rcases sign_table i j with ⟨h1, h2⟩ | ⟨h1, h2⟩ <;> rw [h1, h2, Cert.Gelu.two_eq]
    · have : FloatOps.sitofp (F := Ideal) FTy.f32 (0#32) = ((0 : ℝ) : EReal) := by
        show (((0#32).toInt : ℝ) : EReal) = _
        simp
      rw [this, Ideal.ofBits_one_f32]
      simp
    · have : FloatOps.sitofp (F := Ideal) FTy.f32 (1#32) = ((1 : ℝ) : EReal) := by
        show (((1#32).toInt : ℝ) : EReal) = _
        simp
      rw [this, show Ideal.ofBits .f32 0xBF800000#32 = ((-1 : ℝ) : EReal) by
        simp [Ideal.ofBits, Ideal.ieee, -EReal.coe_mul]; norm_num]
      rw [← EReal.coe_mul, ← EReal.coe_one, ← EReal.coe_sub]
      norm_num
  rw [← h]
  pointwise [refR, refK]

/-- A block maximum of the reference is at most `z` exactly when the sixteen magnitudes are. -/
theorem refAm_le (R : FVec Ideal S16x16 .bf16) (D : FVec Ideal S1x2048x16384 .bf16) (l : Fin 16384) (b : Fin 128) (z : EReal) :
    refAm R D (ix3 0 l b) ≤ z ↔ ∀ i : Fin 16, FloatOps.absf (F := Ideal) (φ := .f32)
      (∑ k : Fin 16, R (ix2 i k) * D (ix3 0 ⟨(b : ℕ) * 16 + k, by omega⟩ l)) ≤ z := by
  have hb : Ideal.ofBits .f32 0xFF800000#32 = ⊥ := by
    simp [Ideal.ofBits, Ideal.ieee]
  pointwise [refAm]
  rw [hb, Finset.fold_max_le]
  simp

/-- A group maximum of the reference is at most `z` exactly when the block maxima of its group are. -/
theorem refGm_le (A : FVec Ideal S1x16384x128 .f32) (r : Fin 8) (l : Fin 256) (z : EReal) : refGm A (ix2 r l) ≤ z
    ↔ ∀ (a : Fin 64) (q : Fin 16), A (ix3 0 ⟨(a : ℕ) * 256 + l, by omega⟩ ⟨(q : ℕ) * 8 + r, by omega⟩) ≤ z := by
  have hb : Ideal.ofBits .f32 0xFF800000#32 = ⊥ := by
    simp [Ideal.ofBits, Ideal.ieee]
  pointwise [refGm]
  rw [hb, Finset.fold_max_le]
  have hd : ∀ x : S64x256x16x8.Idx, reducesTo_S64x256x16x8_S256x8_d0_2.drop x = ix2 l r
      ↔ (x 1 : ℕ) = l ∧ (x 3 : ℕ) = r := by
    intro x
    have e0 := reducesTo_S64x256x16x8_S256x8_d0_2.drop_apply_val_of_eq x 0 1
    have e1 := reducesTo_S64x256x16x8_S256x8_d0_2.drop_apply_val_of_eq x 1 3
    simp [funext_iff, Fin.ext_iff, Fin.forall_fin_two, e0, e1]
  constructor
  · rintro ⟨-, h⟩ a q
    exact h (ix4 a l q r) (Finset.mem_filter.mpr ⟨Finset.mem_univ _, (hd _).mpr ⟨rfl, rfl⟩⟩)
  · refine fun h => ⟨bot_le, fun x hx => ?_⟩
    obtain ⟨h1, h3⟩ := (hd x).mp (Finset.mem_filter.mp hx).2
    simp only [h1, h3]
    exact h (x 0) (x 2)

/-- The reference's column sums. -/
theorem refBias_at (D : FVec Ideal S1x2048x16384 .bf16) (l : Fin 16384) :
    refBias D (ix2 0 l) = ∑ s : Fin 2048, D (ix3 0 s l) := by
  pointwise [refBias]
  unfold Ideal.hostReduceAdd
  rw [zero_add]
  have hd : ∀ x : S1x2048x16384.Idx, reducesTo_S1x2048x16384_S16384_d0_1.drop x = ix1 l
      ↔ (x 2 : ℕ) = l := by
    intro x
    have e0 := reducesTo_S1x2048x16384_S16384_d0_1.drop_apply_val_of_eq x 0 2
    simp [funext_iff, Fin.ext_iff, Fin.forall_fin_one, e0]
  refine Finset.sum_nbij' (fun i => i 1) (fun s => ix3 0 s l) ?_ ?_ ?_ ?_ ?_
  · exact fun _ _ => Finset.mem_univ _
  · intro s _
    exact Finset.mem_filter.mpr ⟨Finset.mem_univ _, (hd _).mpr rfl⟩
  · intro x hx
    have h2 := (hd x).mp (Finset.mem_filter.mp hx).2
    funext a
    refine Fin.ext ?_
    have h0 : (x 0 : ℕ) < 1 := (x 0).isLt
    match a with
    | 0 => show (0 : ℕ) = x 0; omega
    | 1 => rfl
    | 2 => exact h2.symm
  · intro s _
    rfl
  · intro x hx
    have h2 := (hd x).mp (Finset.mem_filter.mp hx).2
    show D x = D _
    congr 1
    funext a
    refine Fin.ext ?_
    have h0 : (x 0 : ℕ) < 1 := (x 0).isLt
    match a with
    | 0 => show (x 0 : ℕ) = 0; omega
    | 1 => rfl
    | 2 => exact h2

end Cert.ReferenceIdeal.Value

end
-- ==== Proof.Arrays.lean ====
/- From the grid's points to the whole arrays, at extended reals: each output array of the kernel is the reference's
   term over the arguments. -/
module

public import proofs.«01_k».proof.Proof.Block
public import proofs.«01_k».proof.Proof.Ref

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block
open Cert.ReferenceIdeal.Value (refDx refR refAm refGm refBias refDx_at refR_at refAm_le refGm_le refBias_at)

variable (m : (ℓ : Loc nD τ sig) → Buf (Elt Ideal) ℓ)

/-- The arguments of the kernel: the incoming gradient, the pre-activation and the signs. -/
abbrev aX (c : Dev nD) : FVec Ideal S1x2048x16384 .bf16 := m ((c.tc : Thread nD τ).loc main_arg0)
abbrev aP (c : Dev nD) : FVec Ideal S1x2048x16384 .bf16 := m ((c.tc : Thread nD τ).loc main_arg1)
abbrev aS (c : Dev nD) : FVec Ideal S16 .f32 := m ((c.tc : Thread nD τ).loc main_arg2)

/-- Which block each window reads or writes at a point. -/
theorem idx : ∀ t : Fin cfg0.N, win0_0.index t = ![0, t.val] ∧ win0_1.index t = ![0, t.val] ∧ win0_2.index t = ![0, 0]
    ∧ win0_3.index t = ![0, t.val] ∧ win0_4.index t = ![t.val, 0] ∧ win0_5.index t = ![0, t.val] ∧ win0_6.index t = ![0, 0] :=
  (by decide +kernel : ∀ t : Fin grid0.N, _)

theorem t_lt (t : Fin cfg0.N) : t.val < 64 := t.isLt

/-- A point's block of the incoming gradient. -/
theorem x_at (c : Dev nD) (t : Fin cfg0.N) (s : Fin 2048) (l : Fin 256) :
    (iblk m c 0 t : FVec Ideal S2048x256 .bf16) (ix2 s l) = aX m c (ix3 0 s ⟨t.val * 256 + l, by have := t_lt t; omega⟩) := by
  blk_simp [iblk]
  entry_read
  pointwise
  blk_ext <;> simp [idx t]

theorem p_at (c : Dev nD) (t : Fin cfg0.N) (s : Fin 2048) (l : Fin 256) :
    (iblk m c 1 t : FVec Ideal S2048x256 .bf16) (ix2 s l) = aP m c (ix3 0 s ⟨t.val * 256 + l, by have := t_lt t; omega⟩) := by
  blk_simp [iblk]
  entry_read
  pointwise
  blk_ext <;> simp [idx t]

/-- A point's block of the stacked matrix is the whole of it. -/
theorem v21_at (c : Dev nD) (t : Fin cfg0.N) (n : Fin 272) (q : Fin 256) :
    (iblk m c 2 t : FVec Ideal S272x256 .bf16) (ix2 n q) = V m c main_v21 (ix2 n q) := by
  blk_ext [iblk, idx t]

/-- The stacked matrix at an index: the transform's entry where the column belongs to the row's block, zero where it does
    not, and ones in the last sixteen rows. -/
theorem v21_form (c : Dev nD) (y : S272x256.Idx) : V m c main_v21 y
    = if h : (y 0 : ℕ) < 256 then FloatOps.ofBits (F := Ideal) .f32 1048576000#32 * FloatOps.ofBits (F := Ideal) .f32 (lit0 (S16x16.rowMajor (ix2 ⟨(y 0 : ℕ) / 16, by idx_bounds; omega⟩ ⟨(y 1 : ℕ) % 16, by omega⟩)))
        * aS m c (ix1 ⟨(y 1 : ℕ) % 16, by omega⟩) * FloatOps.uitofp (F := Ideal) .bf16 (IntOp.cmpi .eq (IntOp.addi (BitVec.ofNat 32 ((y 0 : ℕ) % 16)) 0#32) (BitVec.ofNat 32 ((y 1 : ℕ) / 16)))
      else (1 : EReal) := by
  entry_read
  pointwise

/-- The comparison of a row's block number with a column's, as a number. -/
theorem ind_eq : ∀ a b : Fin 16, FloatOps.uitofp (F := Ideal) .bf16 (IntOp.cmpi .eq (IntOp.addi (BitVec.ofNat 32 (a : ℕ)) 0#32) (BitVec.ofNat 32 (b : ℕ)))
    = if (b : ℕ) = a then (1 : EReal) else 0 := by
  intro a b
  have h : ∀ a b : Fin 16, IntOp.cmpi .eq (IntOp.addi (BitVec.ofNat 32 (a : ℕ)) 0#32) (BitVec.ofNat 32 (b : ℕ)) = if (b : ℕ) = a then 1#1 else 0#1 := by decide +kernel
  rw [h]
  split_ifs <;> simp [FloatOps.uitofp]

/-- The stacked matrix's first 256 rows, at an index given by its coordinates. -/
theorem v21_rows (c : Dev nD) (y : S272x256.Idx) (i n j b : Fin 16) (h0 : (y 0 : ℕ) = (i : ℕ) * 16 + n) (h1 : (y 1 : ℕ) = (b : ℕ) * 16 + j) :
    V m c main_v21 y = refR (aS m c) (ix2 i j) * (if (b : ℕ) = n then 1 else 0) := by
  have e0 : (y 0 : ℕ) % 16 = n := by omega
  have e2 : (y 1 : ℕ) / 16 = b := by omega
  have e1 : (⟨(y 0 : ℕ) / 16, by idx_bounds; omega⟩ : Fin 16) = i := Fin.ext (by simp only; omega)
  have e3 : (⟨(y 1 : ℕ) % 16, by omega⟩ : Fin 16) = j := Fin.ext (by simp only; omega)
  rw [v21_form, dif_pos (by omega), refR_at, e0, e1, e2, e3, ind_eq n b]
  rfl

/-- Row `16 i + n` of the stacked matrix is row `i` of the transform placed at the columns of block `n`. -/
theorem r_at (c : Dev nD) (t : Fin cfg0.N) (i n b j : Fin 16) :
    (iblk m c 2 t : FVec Ideal S272x256 .bf16) (ix2 ⟨(i : ℕ) * 16 + n, by omega⟩ ⟨(b : ℕ) * 16 + j, by omega⟩)
      = refR (aS m c) (ix2 i j) * (if (b : ℕ) = n then 1 else 0) := by
  rw [v21_at]
  exact v21_rows m c _ i n j b rfl rfl

/-- Its last sixteen rows are ones. -/
theorem r_one (c : Dev nD) (t : Fin cfg0.N) (q : Fin 256) :
    (iblk m c 2 t : FVec Ideal S272x256 .bf16) (ix2 256 q) = (1 : EReal) := by
  rw [v21_at, v21_form]
  exact dif_neg (by simp)

/-- A tile's product with the stacked matrix: the transform of one block of sixteen rows of the reference's gradient. -/
theorem w_at (c : Dev nD) (t : Fin cfg0.N) (k : Fin 8) (i n : Fin 16) (l : Fin 256) :
    wB k (iblk m c 2 t) (iblk m c 1 t) (iblk m c 0 t) (ix2 ⟨(i : ℕ) * 16 + n, by omega⟩ l)
      = ∑ j : Fin 16, refR (aS m c) (ix2 i j) * refDx (aX m c) (aP m c)
          (ix3 0 ⟨((k : ℕ) * 16 + n) * 16 + j, by omega⟩ ⟨t.val * 256 + l, by have := t_lt t; omega⟩) := by
  rw [wB_at]
  rw [Fin.sum_univ_tiles 16 16 rfl, Finset.sum_eq_single n]
  · refine Finset.sum_congr rfl fun j _ => ?_
    rw [r_at, if_pos rfl, mul_one, x_at, p_at, refDx_at]
    have e : (⟨(k : ℕ) * 256 + ((n : ℕ) * 16 + j), by omega⟩ : Fin 2048) = ⟨((k : ℕ) * 16 + n) * 16 + j, by omega⟩ := Fin.ext (by simp only; omega)
    rw [e]
  · intro b _ hb
    refine Finset.sum_eq_zero fun j _ => ?_
    rw [r_at, if_neg (fun h => hb (Fin.ext h)), mul_zero, zero_mul]
  · exact fun h => absurd (Finset.mem_univ _) h

/-- The row of ones sums a tile's columns. -/
theorem w_ones (c : Dev nD) (t : Fin cfg0.N) (k : Fin 8) (l : Fin 256) :
    wB k (iblk m c 2 t) (iblk m c 1 t) (iblk m c 0 t) (ix2 256 l)
      = ∑ q : Fin 256, refDx (aX m c) (aP m c) (ix3 0 ⟨(k : ℕ) * 256 + q, by omega⟩ ⟨t.val * 256 + l, by have := t_lt t; omega⟩) := by
  rw [wB_at]
  refine Finset.sum_congr rfl fun q _ => ?_
  rw [r_one, one_mul, x_at, p_at, refDx_at]

/-- A point's column sums are the reference's. -/
theorem bi_at (c : Dev nD) (t : Fin cfg0.N) (l : Fin 256) :
    biB (iblk m c 2 t) (iblk m c 1 t) (iblk m c 0 t) (ix2 0 l)
      = refBias (refDx (aX m c) (aP m c)) (ix2 0 ⟨t.val * 256 + l, by have := t_lt t; omega⟩) := by
  rw [biB_at, refBias_at, Fin.sum_univ_tiles 8 256 rfl]
  refine Finset.sum_congr rfl fun k _ => ?_
  rw [w_ones]

/-- A point's block maxima are the reference's. -/
theorem am_at (c : Dev nD) (t : Fin cfg0.N) (n : Fin 128) (l : Fin 256) :
    amB (iblk m c 2 t) (iblk m c 1 t) (iblk m c 0 t) (ix2 n l)
      = refAm (refR (aS m c)) (refDx (aX m c) (aP m c)) (ix3 0 ⟨t.val * 256 + l, by have := t_lt t; omega⟩ n) := by
  refine eq_of_forall_ge_iff fun z => ?_
  rw [amB_at, mB_le, refAm_le]
  refine forall_congr' fun i => ?_
  rw [w_at]
  have e : ∀ j : Fin 16, (⟨((n : ℕ) / 16 * 16 + (n : ℕ) % 16) * 16 + j, by omega⟩ : Fin 2048) = ⟨(n : ℕ) * 16 + j, by omega⟩ :=
    fun j => Fin.ext (by simp only; omega)
  simp only [e]

/-- The block maxima are not negative. -/
theorem am_nonneg (R : FVec Ideal S16x16 .bf16) (D : FVec Ideal S1x2048x16384 .bf16) (l : Fin 16384) (b : Fin 128) :
    0 ≤ refAm R D (ix3 0 l b) := by
  have h := (refAm_le R D l b _).mp le_rfl 0
  refine le_trans ?_ h
  rw [Ideal.absf_def]
  generalize (∑ k : Fin 16, R (ix2 0 k) * D (ix3 0 ⟨(b : ℕ) * 16 + k, by omega⟩ l) : EReal) = v
  rcases le_total 0 v with hv | hv
  · exact le_max_of_le_left hv
  · exact le_max_of_le_right (EReal.neg_nonneg.mpr hv)

/-- What the group-maxima buffer holds after a point: the maxima over the blocks so far. -/
theorem gm_le (c : Dev nD) (r : Fin 8) (l : Fin 256) (z : EReal) : ∀ (n : ℕ) (h : n < cfg0.N),
    (outsAt0 m c n h).2.2.2 (ix2 r l) ≤ z ↔ ∀ (s : ℕ) (hs : s ≤ n) (q : Fin 16),
      refAm (refR (aS m c)) (refDx (aX m c) (aP m c)) (ix3 0 ⟨s * 256 + l, by have : n < 64 := h; omega⟩ ⟨(q : ℕ) * 8 + r, by omega⟩) ≤ z := by
  intro n
  induction n with
  | zero =>
    intro h
    rw [outs_gm_A m c ⟨0, h⟩ rfl, gmStep_le]
    simp only [am_at]
    constructor
    · rintro ⟨-, H⟩ s hs q
      obtain rfl : s = 0 := by omega
      exact H q
    · intro H
      refine ⟨?_, H 0 le_rfl⟩
      have := le_trans (am_nonneg _ _ _ _) (H 0 le_rfl 0)
      pointwise [k0_pay1]
      exact this
  | succ n ih =>
    intro h
    have hN : n + 1 < 64 := h
    rw [outs_gm_B m c ⟨n + 1, h⟩ (by simp only; omega), gmStep_le]
    simp only [am_at]
    rw [show (outsAt0 m c ((⟨n + 1, h⟩ : Fin cfg0.N).val - 1) (Nat.lt_of_le_of_lt (Nat.sub_le _ _) h)).2.2.2 (ix2 r l) = (outsAt0 m c n (by omega)).2.2.2 (ix2 r l) from rfl, ih]
    constructor
    · rintro ⟨H, H'⟩ s hs q
      rcases Nat.lt_or_ge n s with h' | h'
      · obtain rfl : s = n + 1 := by omega
        exact H' q
      · exact H s h' q
    · intro H
      exact ⟨fun s hs q => H s (by omega) q, H (n + 1) le_rfl⟩

theorem ix2_self {a b : ℕ} (y : (⟨2, ![a, b]⟩ : Shape).Idx) : y = ix2 (y 0) (y 1) := by
  funext k
  fin_cases k <;> rfl

/-- What a point leaves in the gradient's buffer, in the array's coordinates. -/
theorem pt3 (c : Dev nD) (t : Fin cfg0.N) (y : S2048x256.Idx) (i : S2048x16384.Idx) (h0 : (i 0 : ℕ) = y 0) (h1 : (i 1 : ℕ) = t.val * 256 + y 1) :
    (outsAt0 m c t.val t.isLt).1 y = refDx (aX m c) (aP m c) (ix3 0 (i 0) (i 1)) := by
  obtain ⟨s, l, rfl⟩ : ∃ (s : Fin 2048) (l : Fin 256), y = ix2 s l := ⟨y 0, y 1, ix2_self y⟩
  have ht := t_lt t
  have hb : t.val * 256 + (l : ℕ) < 16384 := by omega
  obtain rfl : i = ix2 s ⟨t.val * 256 + l, hb⟩ := by
    rw [ix2_self i]
    exact congrArg₂ ix2 (Fin.ext h0) (Fin.ext h1)
  rw [outs_dx]
  refine Eq.trans ?_ (refDx_at (aX m c) (aP m c) (ix3 0 s ⟨t.val * 256 + l, by omega⟩)).symm
  exact congrArg₂ (fun x p : EReal => x * Cert.Gelu.gelR p) (x_at m c t s l) (p_at m c t s l)

/-- The gradient array is the reference's. -/
theorem arr3 (c : Dev nD) : (dats m 0 c).arrAt 3 cfg0.N = (fun y => refDx (aX m c) (aP m c) (ix3 0 (y 0) (y 1)) : FVec Ideal S2048x16384 .bf16) := by
  refine (dats m 0 c).arrAt_eq_of_covers 3 _ (by decide +kernel) fun t _ y => ?_
  blk_simp
  rw [after0_3]
  exact pt3 m c t y _ (by blk_simp [idx t]) (by blk_simp [idx t])

/-- What a point leaves in the block maxima's buffer, in the array's coordinates. -/
theorem pt4 (c : Dev nD) (t : Fin cfg0.N) (y : S256x128.Idx) (i : S16384x128.Idx) (h0 : (i 0 : ℕ) = t.val * 256 + y 0) (h1 : (i 1 : ℕ) = y 1) :
    (outsAt0 m c t.val t.isLt).2.1 y = refAm (refR (aS m c)) (refDx (aX m c) (aP m c)) (ix3 0 (i 0) (i 1)) := by
  obtain ⟨l, n, rfl⟩ : ∃ (l : Fin 256) (n : Fin 128), y = ix2 l n := ⟨y 0, y 1, ix2_self y⟩
  have ht := t_lt t
  have hb : t.val * 256 + (l : ℕ) < 16384 := by omega
  obtain rfl : i = ix2 ⟨t.val * 256 + l, hb⟩ n := by
    rw [ix2_self i]
    exact congrArg₂ ix2 (Fin.ext h0) (Fin.ext h1)
  rw [outs_am]
  refine Eq.trans ?_ (am_at m c t n l)
  pointwise

/-- The array of block maxima is the reference's. -/
theorem arr4 (c : Dev nD) : (dats m 0 c).arrAt 4 cfg0.N = (fun y => refAm (refR (aS m c)) (refDx (aX m c) (aP m c)) (ix3 0 (y 0) (y 1)) : FVec Ideal S16384x128 .f32) := by
  refine (dats m 0 c).arrAt_eq_of_covers 4 _ (by decide +kernel) fun t _ y => ?_
  blk_simp
  rw [after0_4]
  exact pt4 m c t y _ (by blk_simp [idx t]) (by blk_simp [idx t])

/-- What a point leaves in the column sums' buffer, in the array's coordinates. -/
theorem pt5 (c : Dev nD) (t : Fin cfg0.N) (y : S1x256.Idx) (i : S1x16384.Idx) (h1 : (i 1 : ℕ) = t.val * 256 + y 1) :
    (outsAt0 m c t.val t.isLt).2.2.1 y = refBias (refDx (aX m c) (aP m c)) i := by
  obtain ⟨s, l, rfl⟩ : ∃ (s : Fin 1) (l : Fin 256), y = ix2 s l := ⟨y 0, y 1, ix2_self y⟩
  obtain rfl : s = 0 := Subsingleton.elim _ _
  have ht := t_lt t
  have hb : t.val * 256 + (l : ℕ) < 16384 := by omega
  obtain rfl : i = ix2 0 ⟨t.val * 256 + l, hb⟩ := by
    rw [ix2_self i]
    exact congrArg₂ ix2 (Subsingleton.elim (α := Fin 1) _ _) (Fin.ext h1)
  rw [outs_bi]
  exact bi_at m c t l

/-- The array of column sums is the reference's. -/
theorem arr5 (c : Dev nD) : (dats m 0 c).arrAt 5 cfg0.N = refBias (refDx (aX m c) (aP m c)) := by
  refine (dats m 0 c).arrAt_eq_of_covers 5 _ (by decide +kernel) fun t _ y => ?_
  blk_simp
  rw [after0_5]
  exact pt5 m c t y _ (by blk_simp [idx t])

/-- What the last point leaves in the group maxima's buffer. -/
theorem pt6 (c : Dev nD) (t : Fin cfg0.N) (ht : t.val = 63) (y i : S8x256.Idx) (h0 : (i 0 : ℕ) = y 0) (h1 : (i 1 : ℕ) = y 1) :
    (outsAt0 m c t.val t.isLt).2.2.2 y = refGm (refAm (refR (aS m c)) (refDx (aX m c) (aP m c))) i := by
  obtain ⟨r, l, rfl⟩ : ∃ (r : Fin 8) (l : Fin 256), y = ix2 r l := ⟨y 0, y 1, ix2_self y⟩
  obtain rfl : i = ix2 r l := by
    rw [ix2_self i]
    exact congrArg₂ ix2 (Fin.ext h0) (Fin.ext h1)
  refine eq_of_forall_ge_iff fun z => ?_
  rw [gm_le, refGm_le]
  exact ⟨fun H a q => H a (by omega) q, fun H s hs q => H ⟨s, by omega⟩ q⟩

/-- The array of group maxima is the reference's. -/
theorem arr6 (c : Dev nD) : (dats m 0 c).arrAt 6 cfg0.N = refGm (refAm (refR (aS m c)) (refDx (aX m c) (aP m c))) := by
  refine (dats m 0 c).arrAt_eq_of_covers 6 _ (by decide +kernel) fun t hf y => ?_
  have ht : t.val = 63 := by have := (flush0_6 t).mp hf; have := t_lt t; omega
  blk_simp
  rw [after0_6]
  exact pt6 m c t ht y _ (by blk_simp [idx t]) (by blk_simp [idx t])

end Cert.KernelIdeal.Arrays
-- ==== Proof.Algebra.lean ====
/- The algebraic claim: the kernel's four arrays equal the reference's, from memories that agree on the arguments. -/
module

public import proofs.«01_k».proof.Defs
public import proofs.«01_k».proof.Proof.Arrays

@[expose] public section

set_option maxRecDepth 16384

noncomputable section

open Idealize.ShloMosaic Idealize.ShloMosaic.TcCoe Idealize.SL.Sem

namespace Cert.Algebra

open Cert.ReferenceIdeal.Value (refDx refR refAm refGm refBias res1_eq res3_eq)
open Cert.KernelIdeal.Arrays

/-- Dropping the leading axis of length one: of the gradient, and of the block maxima. -/
theorem drop_dx (f : FVec Ideal Cert.ReferenceIdeal.S1x2048x16384 .bf16) :
    shapeCast Cert.ReferenceIdeal.S2048x16384 f Cert.ReferenceIdeal.Gen.shapeCasts_S1x2048x16384_S2048x16384 = fun y => f (ix3 0 (y 0) (y 1)) := by
  funext y
  pointwise

theorem drop_am (f : FVec Ideal Cert.ReferenceIdeal.S1x16384x128 .f32) :
    shapeCast Cert.ReferenceIdeal.S16384x128 f Cert.ReferenceIdeal.Gen.shapeCasts_S1x16384x128_S16384x128 = fun y => f (ix3 0 (y 0) (y 1)) := by
  funext y
  pointwise

/-- `algebraic_KernelIdeal_ReferenceIdeal`. -/
theorem algebraic : Cert.algebraic_KernelIdeal_ReferenceIdeal := by
  intro m g m' g' _ hargs
  refine ⟨fun c => (Cert.KernelIdeal.Gen.dats m 0 c).arrAt 3 Cert.KernelIdeal.cfg0.N,
    fun c => (Cert.KernelIdeal.Gen.dats m 0 c).arrAt 4 Cert.KernelIdeal.cfg0.N,
    fun c => (Cert.KernelIdeal.Gen.dats m 0 c).arrAt 5 Cert.KernelIdeal.cfg0.N,
    fun c => (Cert.KernelIdeal.Gen.dats m 0 c).arrAt 6 Cert.KernelIdeal.cfg0.N,
    Cert.KernelIdeal.Value.run_blocks m g,
    (θ_run _ _ _).mono (fun r h c => ?_) (Cert.ReferenceIdeal.Value.run m' g')⟩
  obtain ⟨h0, h1, h2⟩ := hargs c
  obtain ⟨r0, r1, r2, r3, r4, r5, r6⟩ := h c
  rw [res1_eq, h0, h1, h2] at r1
  rw [res3_eq, h0, h1, h2] at r3
  rw [h0, h1] at r0 r2
  refine ⟨r0.trans ?_, r1.trans ?_, r2.trans ?_, r3.trans ?_, r4, r5, r6⟩
  · exact (drop_dx (refDx (aX m c) (aP m c))).trans (arr3 m c).symm
  · exact (drop_am (refAm (refR (aS m c)) (refDx (aX m c) (aP m c)))).trans (arr4 m c).symm
  · exact (arr5 m c).symm
  · exact (arr6 m c).symm

end Cert.Algebra
-- ==== Proof.QuantBody.lean ====
/- The second kernel's body at one grid point, run once: what it leaves in the buffers of the block scales and of the
   tensor scale. The codes' buffer is left unnamed: nothing here reads it. -/
module

public import proofs.«01_k».proof.Proof.Gen.Quant
public import proofs.«01_k».proof.Proof.Gen.Quant.Skeleton
public import proofs.«01_k».proof.Proof.Gen.Quant.Frame
public import Idealize.ShloMosaic.Lib.Pipeline.TableIdle

@[expose] public section

set_option maxRecDepth 16384

noncomputable section

namespace Cert.Quant.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Quant Cert.Quant.Gen

variable {F : FTy → Type} [BitOps F]

local notation "𝕄" => MT nD τ sig Unit (Elt F) ℕ (UR sig nD τ) ℕ

/-- The block scales' buffer after the body: one store over the whole of it, of the payload at the group maxima `x3` and
    the block maxima `x1`. -/
def sbOut (x3 : Vec F S8x256 .f32) (x1 : Vec F S256x128 .f32) : Vec F S256x128 .fp8e4m3 :=
  View.canon [⟨Rect.unit (s := S256x128) ![0, 0] S256x128.size inb_S256x128_S256x128_0_0,
    k0_pay4 (View.ld x3 (Rect.unit (s := S8x256) ![0, 0] S8x256.size inb_S8x256_S8x256_0_0)) (View.ld x1 (Rect.unit (s := S256x128) ![0, 0] S256x128.size inb_S256x128_S256x128_0_0))⟩]

/-- The tensor scale's buffer after the first point's body: one store over the whole of it, of the payload at the group
    maxima `x3`. -/
def tsOut (x3 : Vec F S8x256 .f32) : Vec F S8x128 .f32 :=
  View.canon [⟨Rect.unit (s := S8x128) ![0, 0] S8x128.size inb_S8x128_S8x128_0_0,
    k0_pay3 (View.ld x3 (Rect.unit (s := S8x256) ![0, 0] S8x256.size inb_S8x256_S8x256_0_0))⟩]

/-- The one store of the block scales covers its buffer. -/
theorem cover_sb (p : Vec F S256x128 .fp8e4m3) (y : S256x128.Idx) :
    ∃ pc ∈ ([⟨Rect.unit (s := S256x128) ![0, 0] S256x128.size inb_S256x128_S256x128_0_0, p⟩] : List (View.Piece (Elt F) S256x128 .fp8e4m3)), y ∈ pc.1.set :=
  View.cover_of_tiled [⟨Rect.unit (s := S256x128) ![0, 0] S256x128.size inb_S256x128_S256x128_0_0, p⟩] S256x128.size (by rfl) y

/-- The one store of the tensor scale covers its buffer. -/
theorem cover_ts (p : Vec F S8x128 .f32) (y : S8x128.Idx) :
    ∃ pc ∈ ([⟨Rect.unit (s := S8x128) ![0, 0] S8x128.size inb_S8x128_S8x128_0_0, p⟩] : List (View.Piece (Elt F) S8x128 .f32)), y ∈ pc.1.set :=
  View.cover_of_tiled [⟨Rect.unit (s := S8x128) ![0, 0] S8x128.size inb_S8x128_S8x128_0_0, p⟩] S8x128.size (by rfl) y

set_option maxHeartbeats 4000000 in
/-- The body at the first point, on whole staging buffers: from the six inputs at `x0` to `x5` and the outputs at anything, it
    runs to its end with the inputs as they were, the block scales at `sbOut x3 x1`, the codes at some contents, and the
    tensor scale's buffer at `tsOut x3`. -/
theorem run_first (c : Dev nD) (E : Set ℕ) (i : grid0.Coords) (arg1 : Memref sig .tc .vmem S2048x256 .bf16) (harg1 : arg1.IsWhole) (arg2 : Memref sig .tc .vmem S256x128 .f32) (harg2 : arg2.IsWhole) (arg3 : Memref sig .tc .vmem S256x2048 .i8) (harg3 : arg3.IsWhole) (arg4 : Memref sig .tc .vmem S8x256 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x1024 .i8) (harg7 : arg7.IsWhole) (arg8 : Memref sig .tc .vmem S256x128 .fp8e4m3) (harg8 : arg8.IsWhole) (arg9 : Memref sig .tc .vmem S8x128 .f32) (harg9 : arg9.IsWhole)
    (hc : k0_cond1 i = 1#1)
    (x0 : Vec F S2048x256 .bf16) (x1 : Vec F S256x128 .f32) (x2 : Vec F S256x2048 .i8) (x3 : Vec F S8x256 .f32) (x4 : Vec F S256x256 .bf16) (x5 : Vec F S256x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare (sbOut x3 x1) ∗ owns (c : Thread nD τ) arg9 fullShare (tsOut x3)) -∗ K ⟨⟩))
      ⊢ wp frame (wpE (defs₀ (F := F)) Variants.none c none) E (cc0_nvfp4_quant i arg1 harg1 arg2 harg2 arg3 harg3 arg4 harg4 arg5 harg5 arg6 harg6 arg7 harg7 arg8 harg8 arg9 harg9) K := by
  simp only [cc0_nvfp4_quant_eq_skeleton]; unfold cc0_nvfp4_quant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | sl_exact hc)
  sl_step
  iapply Hk
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _, _; isplitr; swap; · iexact H6
                  ipureintro; rfl
  isplitl [H7]
  · iexists _; isplitr; swap; · iexact H7
    ipureintro; exact View.read_writes_eq_canon _ _ _ (cover_sb _)
  iexists _; isplitr; swap; · iexact H8
  ipureintro; exact View.read_writes_eq_canon _ _ _ (cover_ts _)

set_option maxHeartbeats 4000000 in
/-- The body at a later point, on whole staging buffers: from the six inputs at `x0` to `x5` and the outputs at anything, it
    runs to its end with the inputs as they were, the block scales at `sbOut x3 x1`, the codes at some contents, and the
    tensor scale's buffer as it was. -/
theorem run_later (c : Dev nD) (E : Set ℕ) (i : grid0.Coords) (arg1 : Memref sig .tc .vmem S2048x256 .bf16) (harg1 : arg1.IsWhole) (arg2 : Memref sig .tc .vmem S256x128 .f32) (harg2 : arg2.IsWhole) (arg3 : Memref sig .tc .vmem S256x2048 .i8) (harg3 : arg3.IsWhole) (arg4 : Memref sig .tc .vmem S8x256 .f32) (harg4 : arg4.IsWhole) (arg5 : Memref sig .tc .vmem S256x256 .bf16) (harg5 : arg5.IsWhole) (arg6 : Memref sig .tc .vmem S256x256 .bf16) (harg6 : arg6.IsWhole) (arg7 : Memref sig .tc .vmem S256x1024 .i8) (harg7 : arg7.IsWhole) (arg8 : Memref sig .tc .vmem S256x128 .fp8e4m3) (harg8 : arg8.IsWhole) (arg9 : Memref sig .tc .vmem S8x128 .f32) (harg9 : arg9.IsWhole)
    (hc : ¬k0_cond1 i = 1#1)
    (x0 : Vec F S2048x256 .bf16) (x1 : Vec F S256x128 .f32) (x2 : Vec F S256x2048 .i8) (x3 : Vec F S8x256 .f32) (x4 : Vec F S256x256 .bf16) (x5 : Vec F S256x256 .bf16) (x8 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare x8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare (sbOut x3 x1) ∗ owns (c : Thread nD τ) arg9 fullShare x8) -∗ K ⟨⟩))
      ⊢ wp frame (wpE (defs₀ (F := F)) Variants.none c none) E (cc0_nvfp4_quant i arg1 harg1 arg2 harg2 arg3 harg3 arg4 harg4 arg5 harg5 arg6 harg6 arg7 harg7 arg8 harg8 arg9 harg9) K := by
  simp only [cc0_nvfp4_quant_eq_skeleton]; unfold cc0_nvfp4_quant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  subst hf0 hf1 hf2 hf3 hf4 hf5 hf8
  sl_exec (disch := first | sl_exact hc)
  sl_step
  iapply Hk
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _, _; isplitr; swap; · iexact H6
                  ipureintro; rfl
  isplitl [H7]
  · iexists _; isplitr; swap; · iexact H7
    ipureintro; exact View.read_writes_eq_canon _ _ _ (cover_sb _)
  iexists _; isplitr; swap; · iexact H8
  ipureintro; rfl

end Cert.Quant.Frame

end
-- ==== Proof.QuantFrame.lean ====
/- The run of the second kernel: its pipeline's proof data, the body at every grid point, the launch, and what the run
   leaves in the two results and the arguments. -/
module

public import proofs.«01_k».proof.Proof.Gen.Quant
public import proofs.«01_k».proof.Proof.Gen.Quant.Skeleton
public import proofs.«01_k».proof.Proof.Gen.Quant.Frame
public import Idealize.ShloMosaic.Lib.Pipeline.TableIdle
public import proofs.«01_k».proof.Proof.QuantBody

@[expose] public section

set_option maxRecDepth 16384

noncomputable section

namespace Cert.Quant.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Quant Cert.Quant.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The body's condition holds at the first point only. -/
theorem cond_iff : ∀ t : Fin cfg0.N, k0_cond1 (grid0.coords t) = 1#1 ↔ t.val = 0 := by decide +kernel

/-- At every point but the first, the tensor scale's buffer already holds what the first point stored. -/
theorem fresh_ts : ∀ t : Fin cfg0.N, t.val ≠ 0 → cfg0.fresh 8 t.val = false := by decide +kernel

/-- The first grid point. -/
def t0 : Fin cfg0.N := ⟨0, by decide⟩

/-- The codes' window, forgotten: nothing here reads what the kernel leaves in it. -/
def codes : Fin 9 → Bool := fun w => w.val == 6

/-- The pipeline's proof data: the arrays as the region finds them; after the body at point `t` each input's buffer at its
    block, the block scales' at `sbOut` of the blocks, the tensor scale's at what the first point stored; the codes' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Pipeline.Dat.unnamed (cfg := cfg0) 6 t
    | ⟨7, _⟩ => sbOut (iblk m c 3 t) (iblk m c 1 t)
    | ⟨8, _⟩ => tsOut (iblk m c 3 t0)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after7 (c : Dev nD) (t : Fin cfg0.N) : (dats m 0 c).after 7 t = sbOut (iblk m c 3 t) (iblk m c 1 t) := by dsimp only [dats]
theorem after8 (c : Dev nD) (t : Fin cfg0.N) : (dats m 0 c).after 8 t = tsOut (iblk m c 3 t0) := by dsimp only [dats]

/-- What each input's buffer holds when the body runs: its block. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
/-- What the tensor scale's buffer holds when the body runs at a later point: what the first point stored. -/
theorem before8 (c : Dev nD) (t : Fin cfg0.N) (h0 : t.val ≠ 0) (d) : (dats m 0 c).before 8 t d = tsOut (iblk m c 3 t0) := by
  rw [(dats m 0 c).before_out_traj 8 rfl (fun _ _ => rfl) (fun t _ _ _ => by rw [after8, after8]) t.val t rfl d, fresh_ts t h0,
    if_neg Bool.false_ne_true, after8]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ owns (c : Thread nD τ) (st0_7 t) fullShare ((dats m 0 c).after 7 t)
    ∗ (dats m 0 c).leavesExact 8 t)

set_option maxHeartbeats 800000 in
/-- The body at any point: at the first it stores the tensor scale, at a later one it leaves it as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after7]
  by_cases h0 : t.val = 0
  · have e8 : (dats m 0 c).leavesExact 8 t = owns (c : Thread nD τ) (st0_8 t) fullShare (tsOut (iblk m c 3 t)) := by
      obtain rfl : t = t0 := Fin.ext h0
      have hi : cfg0.idle 8 (cfg0.grid.coords t0) = false := by decide +kernel
      unfold Dat.leavesExact; rw [hi, after8]
    rw [e8]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c Set.univ (grid0.coords t) _ _ _ _ _ _ _ _ _ _ _ _ _ _ _ _ _ _ ((cond_iff t).mpr h0) (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc := fun h => h0 ((cond_iff t).mp h)
    have e8 : owns (c : Thread nD τ) (st0_8 t) fullShare (tsOut (iblk m c 3 t0)) ⊢ ((dats m 0 c).leavesExact 8 t : sProp 𝕄) := by
      have hi : ∀ t : Fin cfg0.N, t.val ≠ 0 → cfg0.idle 8 (cfg0.grid.coords t) = true := by decide +kernel
      unfold Dat.leavesExact; rw [hi t h0]
      cases (cfg0.win 8).flush t
      · dsimp only
        iintro H; iexists tsOut (iblk m c 3 t0); rw [before8 m c t h0]; iexact H
      · dsimp only; rw [after8]
    simp only [before8 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_later c Set.univ (grid0.coords t) _ _ _ _ _ _ _ _ _ _ _ _ _ _ _ _ _ _ hc (iblk m c 0 t) (iblk m c 1 t) (iblk m c 2 t) (iblk m c 3 t) (iblk m c 4 t) (iblk m c 5 t) (tsOut (iblk m c 3 t0)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply e8; iexact H8

/-- The body table's row at point `t` is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation, the codes forgotten. -/
theorem body_obligation (c : Dev nD) : BodyObligation (dats (F := F) m 0 c) (defs₀ (F := F)) Variants.none () Set.univ codes := fun t => by
  rw [bigSep_W0, bigSep_W0, defs₀_row]
  exact triple_restated (sound_body m c t) rfl .rfl fun _ => .rfl

set_option backward.isDefEq.respectTransparency.types false in
/-- Every execution of the second kernel ends; every array but the codes' then holds what the proof data says, every buffer
    no window stages what it held, and every semaphore counter is zero. -/
theorem run_main : θ_run defs (onTc (τ := τ) (main (F := F))) (s₀ m ρ)
    (fun r => Pipeline.RDat.FramePost (cfgs 0) (fun c => (dats m 0 c).toRForget codes) (V m) r ∧ r.2.sem = fun _ => 0) :=
  Pipeline.θ_run_frame_forget (Q' := _) cfgs (dats m) (0 : Fin 1) launch0 defs₀ Variants.none codes m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run, read at the two results and the five arguments. -/
theorem run_results : θ_run defs (onTc (τ := τ) (main (F := F))) (s₀ m ρ) (fun r => (∀ c : Dev nD,
      r.2.mem ((c.tc : Thread nD τ).loc main_v25_1) = (dats m 0 c).arrAt 7 cfg0.N
      ∧ r.2.mem ((c.tc : Thread nD τ).loc main_v25_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r hr => ⟨fun c => by
    have h := hr.1 c
    have hw (w : Fin cfg0.W) (hf : codes w = false) : r.2.mem (((cfgs 0).spec w).arr.view.loc (c.tc : Thread nD τ)) = (dats m 0 c).arrAt w cfg0.N :=
      ((dats m 0 c).toRForget_arrAt_iff hf cfg0.N _).mp (h.1 w)
    exact ⟨hw 7 rfl, hw 8 rfl,
      (hw 0 rfl).trans (((dats m 0 c).arrAt_in 0 rfl _).trans ((A_eq m c 0).trans (V_main_arg0 m c))),
      (hw 1 rfl).trans (((dats m 0 c).arrAt_in 1 rfl _).trans ((A_eq m c 1).trans (V_main_arg1 m c))),
      (hw 3 rfl).trans (((dats m 0 c).arrAt_in 3 rfl _).trans ((A_eq m c 3).trans (V_main_arg2 m c))),
      (h.2 main_arg3 (Pipeline.mem_restRefs_of main_arg3 (by decide) (by decide))).trans (V_main_arg3 m c),
      (h.2 main_arg4 (Pipeline.mem_restRefs_of main_arg4 (by decide) (by decide))).trans (V_main_arg4 m c)⟩, hr.2⟩) (run_main m ρ)

/-- The frame: every execution ends with the arguments unchanged and every semaphore counter at zero. -/
theorem frame_quant : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).2.2, h.2⟩) (run_results m ρ)

end Cert.Quant.Frame

end
-- ==== Proof.QuantValue.lean ====
/- The two results of the second kernel, bit for bit: the block scales and the tensor scale are the reference's functions of
   the block maxima and of the group maxima. -/
module

public import proofs.«01_k».proof.Defs
public import proofs.«01_k».proof.Proof.QuantFrame
public import proofs.«01_k».proof.Proof.Gen.QuantReference
public import Idealize.ShloMosaic.Lib.Pipeline.ValueKit
public import proofs.«01_k».proof.Proof.Gen.QuantReference.Skeleton
public import proofs.«01_k».proof.Proof.Gen.QuantReference.Frame

@[expose] public section

set_option maxRecDepth 16384

noncomputable section

open Idealize.ShloMosaic Idealize.ShloMosaic.TcCoe Idealize.SL.Sem
open Idealize.ShloMosaic.Pipeline (Dat)

namespace Cert.Quant.Value

open Cert.Quant Cert.Quant.Gen Cert.Quant.Frame

/-- The tensor scale of the group maxima: their maximum over 2688 where that is positive, one elsewhere. -/
def scale (g : FVec Bits S8x256 .f32) : Bits .f32 := k0_pay2 (F := Bits) g (ix2 0 0)

/-- The block scale of a block maximum `a` under the tensor scale `s`: `a / (6 s)`, rounded to eight bits. -/
def blockScale (s a : Bits .f32) : Bits .fp8e4m3 :=
  FloatOps.truncf .fp8e4m3 bitsLt_fp8e4m3_f32 (FloatOps.divf a (FloatOps.mulf (FloatOps.ofBits .f32 0x40C00000#32) s))

/-- The kernel's store of the block scales, entry by entry. -/
theorem sbOut_at (x3 : FVec Bits S8x256 .f32) (x1 : FVec Bits S256x128 .f32) (y : S256x128.Idx) :
    sbOut (F := Bits) x3 x1 y = blockScale (scale x3) (x1 y) := by
  unfold sbOut
  rw [View.canon_cons_unit_lit _ _ _ (by decide), View.ld_unit_lit _ _ (by decide), View.ld_unit_lit _ _ (by decide)]
  unfold k0_pay4
  pointwise [blockScale, scale]

/-- The kernel's store of the tensor scale: the scale everywhere. -/
theorem tsOut_at (x3 : FVec Bits S8x256 .f32) (y : S8x128.Idx) : tsOut (F := Bits) x3 y = scale x3 := by
  unfold tsOut
  rw [View.canon_cons_unit_lit _ _ _ (by decide), View.ld_unit_lit _ _ (by decide)]
  unfold k0_pay3
  pointwise [scale]

/-- The reference's tensor scale is the same function. -/
theorem ref_scale (g : FVec Bits S8x256 .f32) : Cert.QuantReference.Gen.k0_pay1 (F := Bits) g (ix2 0 0) = scale g := rfl

/-- The reference's store of the block scales, entry by entry. -/
theorem refSb_at (x0 : FVec Bits Cert.QuantReference.S16384x128 .f32) (x1 : FVec Bits S8x256 .f32) (y : Cert.QuantReference.S16384x128.Idx) :
    Cert.QuantReference.Gen.out0_2 (F := Bits) x0 x1 y = blockScale (scale x1) (x0 y) := by
  unfold Cert.QuantReference.Gen.out0_2
  rw [View.canon_cons_unit_lit _ _ _ (by decide), View.ld_unit_lit _ _ (by decide), View.ld_unit_lit _ _ (by decide), ← ref_scale]
  unfold Cert.QuantReference.Gen.k0_pay3
  pointwise [blockScale]

/-- The reference's store of the tensor scale: the scale everywhere. -/
theorem refTs_at (x0 : FVec Bits Cert.QuantReference.S16384x128 .f32) (x1 : FVec Bits S8x256 .f32) (y : Cert.QuantReference.S8x128.Idx) :
    Cert.QuantReference.Gen.out0_3 (F := Bits) x0 x1 y = scale x1 := by
  unfold Cert.QuantReference.Gen.out0_3
  rw [View.canon_cons_unit_lit _ _ _ (by decide), View.ld_unit_lit _ _ (by decide), ← ref_scale]
  unfold Cert.QuantReference.Gen.k0_pay2
  pointwise

/-! ## The kernel's arrays -/

section Kernel

variable (m : (ℓ : Loc nD τ sig) → Buf (Elt Bits) ℓ)

/-- The block maxima and the group maxima the kernel is given. -/
abbrev aAmax (c : Dev nD) : FVec Bits S16384x128 .f32 := m ((c.tc : Thread nD τ).loc main_arg1)
abbrev aGmax (c : Dev nD) : FVec Bits S8x256 .f32 := m ((c.tc : Thread nD τ).loc main_arg2)

/-- Which block each of the windows read here reads or writes at a point. -/
theorem idx : ∀ t : Fin cfg0.N, win0_1.index t = ![t.val, 0] ∧ win0_3.index t = ![0, 0] ∧ win0_7.index t = ![t.val, 0]
    ∧ win0_8.index t = ![0, 0] :=
  (by decide +kernel : ∀ t : Fin grid0.N, _)

theorem t_lt (t : Fin cfg0.N) : t.val < 64 := t.isLt

/-- A point's block of the block maxima: rows `256 t` to `256 t + 255`. -/
theorem amax_at (c : Dev nD) (t : Fin cfg0.N) (q : Fin 256) (k : Fin 128) :
    (iblk m c 1 t : FVec Bits S256x128 .f32) (ix2 q k) = aAmax m c (ix2 ⟨t.val * 256 + q, by have := t_lt t; omega⟩ k) := by
  unfold iblk
  rw [show V m c (Pipeline.arrRef spec0 1) = m ((c.tc : Thread nD τ).loc main_arg1) from V_main_arg1 m c]
  blk_ext [idx t]

/-- A point's block of the group maxima is the whole of them. -/
theorem gmax_eq (c : Dev nD) (t : Fin cfg0.N) : (iblk m c 3 t : FVec Bits S8x256 .f32) = aGmax m c := by
  funext y
  unfold iblk
  rw [show V m c (Pipeline.arrRef spec0 3) = m ((c.tc : Thread nD τ).loc main_arg2) from V_main_arg2 m c]
  blk_ext [idx t]

/-- The block scales of the whole array of block maxima. -/
def sbAll (A : FVec Bits S16384x128 .f32) (g : FVec Bits S8x256 .f32) : FVec Bits S16384x128 .fp8e4m3 :=
  fun y => blockScale (scale g) (A y)

theorem pt7 (c : Dev nD) (t : Fin cfg0.N) (y : S256x128.Idx) (z : S16384x128.Idx)
    (h0 : (z 0 : ℕ) = t.val * 256 + (y 0 : ℕ)) (h1 : (z 1 : ℕ) = (y 1 : ℕ)) :
    sbOut (F := Bits) (iblk m c 3 t) (iblk m c 1 t) y = sbAll (aAmax m c) (aGmax m c) z := by
  rw [sbOut_at, gmax_eq, sbAll]
  have hy : (y 0 : ℕ) < 256 := (y 0).isLt
  have ht := t_lt t
  have hz : z = ix2 ⟨t.val * 256 + (y 0 : ℕ), by omega⟩ (y 1) := by
    funext a; fin_cases a
    · exact Fin.ext h0
    · exact Fin.ext h1
  have hyy : y = ix2 (y 0) (y 1) := by funext a; fin_cases a <;> rfl
  rw [hz]
  exact congrArg _ ((congrArg (iblk m c 1 t : FVec Bits S256x128 .f32) hyy).trans (amax_at m c t (y 0) (y 1)))

/-- The block scales the kernel leaves. -/
theorem arr7 (c : Dev nD) : (dats m 0 c).arrAt 7 cfg0.N = sbAll (aAmax m c) (aGmax m c) := by
  refine (dats m 0 c).arrAt_eq_of_covers 7 _ (by decide +kernel) fun t _ y => ?_
  blk_simp
  rw [after7]
  exact pt7 m c t y _ (by blk_simp [idx t]) (by blk_simp [idx t])

/-- The tensor scale the kernel leaves. -/
theorem arr8 (c : Dev nD) : (dats m 0 c).arrAt 8 cfg0.N = (fun _ => scale (aGmax m c) : FVec Bits S8x128 .f32) := by
  refine (dats m 0 c).arrAt_eq_of_covers 8 _ (by decide +kernel) fun t _ y => ?_
  blk_simp
  rw [after8, gmax_eq]
  exact tsOut_at _ _

end Kernel

/-! ## The reference's arrays -/

section Reference

open Cert.QuantReference.Gen (dats iblk after0_2 after0_3)

variable (m : (ℓ : Loc Cert.QuantReference.nD Cert.QuantReference.τ Cert.QuantReference.sig) → Buf (Elt Bits) ℓ)

abbrev rAmax (c : Dev Cert.QuantReference.nD) : FVec Bits S16384x128 .f32 := m ((c.tc : Thread Cert.QuantReference.nD Cert.QuantReference.τ).loc Cert.QuantReference.main_arg1)
abbrev rGmax (c : Dev Cert.QuantReference.nD) : FVec Bits S8x256 .f32 := m ((c.tc : Thread Cert.QuantReference.nD Cert.QuantReference.τ).loc Cert.QuantReference.main_arg2)

/-- The reference's one point reads and writes whole arrays. -/
theorem ridx : ∀ t : Fin Cert.QuantReference.cfg0.N, Cert.QuantReference.win0_0.index t = ![0, 0] ∧ Cert.QuantReference.win0_1.index t = ![0, 0]
    ∧ Cert.QuantReference.win0_2.index t = ![0, 0] ∧ Cert.QuantReference.win0_3.index t = ![0, 0] :=
  (by decide +kernel : ∀ t : Fin Cert.QuantReference.grid0.N, _)

/-- So an index of a block of it is the same index of the array. -/
theorem remb0 (t : Fin Cert.QuantReference.grid0.N) (y) : (Cert.QuantReference.win0_0.rect t).emb y = y := by
  funext a; apply Fin.ext
  exact Pipeline.Window.rect_emb_val_of_index_zero _ t a (by rw [(ridx t).1]; exact (by decide : ∀ a : Fin 2, (![0, 0] : Fin 2 → ℕ) a = 0) a) _

theorem remb1 (t : Fin Cert.QuantReference.grid0.N) (y) : (Cert.QuantReference.win0_1.rect t).emb y = y := by
  funext a; apply Fin.ext
  exact Pipeline.Window.rect_emb_val_of_index_zero _ t a (by rw [(ridx t).2.1]; exact (by decide : ∀ a : Fin 2, (![0, 0] : Fin 2 → ℕ) a = 0) a) _

theorem remb2 (t : Fin Cert.QuantReference.grid0.N) (y) : (Cert.QuantReference.win0_2.rect t).emb y = y := by
  funext a; apply Fin.ext
  exact Pipeline.Window.rect_emb_val_of_index_zero _ t a (by rw [(ridx t).2.2.1]; exact (by decide : ∀ a : Fin 2, (![0, 0] : Fin 2 → ℕ) a = 0) a) _

/-- The reference's block of the block maxima is the whole of them, and so of the group maxima. -/
theorem ref_amax (c : Dev Cert.QuantReference.nD) (t : Fin Cert.QuantReference.cfg0.N) : (iblk m c 0 t : FVec Bits S16384x128 .f32) = rAmax m c := by
  funext y
  exact congrArg (rAmax m c) (remb0 t y)

theorem ref_gmax (c : Dev Cert.QuantReference.nD) (t : Fin Cert.QuantReference.cfg0.N) : (iblk m c 1 t : FVec Bits S8x256 .f32) = rGmax m c := by
  funext y
  exact congrArg (rGmax m c) (remb1 t y)

/-- The block scales the reference leaves. -/
theorem ref_arr2 (c : Dev Cert.QuantReference.nD) :
    (dats m 0 c).arrAt 2 Cert.QuantReference.cfg0.N = sbAll (rAmax m c) (rGmax m c) := by
  refine (dats m 0 c).arrAt_eq_of_covers 2 _ (by decide +kernel) fun t _ y => ?_
  blk_simp
  rw [after0_2, ref_amax, ref_gmax, refSb_at]
  exact congrArg (sbAll (rAmax m c) (rGmax m c)) (remb2 t y).symm

/-- The tensor scale the reference leaves. -/
theorem ref_arr3 (c : Dev Cert.QuantReference.nD) :
    (dats m 0 c).arrAt 3 Cert.QuantReference.cfg0.N = (fun _ => scale (rGmax m c) : FVec Bits S8x128 .f32) := by
  refine (dats m 0 c).arrAt_eq_of_covers 3 _ (by decide +kernel) fun t _ y => ?_
  blk_simp
  rw [after0_3, ref_gmax, refTs_at]

end Reference

/-- `bitexact_Quant_QuantReference`: from memories that agree on the arguments, the kernel and the reference end with the same
    block scales and the same tensor scale, bit for bit, and their arguments unchanged. -/
theorem bitexact : Cert.bitexact_Quant_QuantReference := by
  intro m g m' g' _ hargs
  refine ⟨fun c => (Cert.Quant.Frame.dats m 0 c).arrAt 7 cfg0.N, fun c => (Cert.Quant.Frame.dats m 0 c).arrAt 8 cfg0.N,
    (θ_run _ _ _).mono (fun r h => h.1) (run_results m g),
    (θ_run _ _ _).mono (fun r h c => ?_) (θ_run_and (Cert.QuantReference.Gen.run_main m' g') (Cert.QuantReference.Gen.unchanged m' g'))⟩
  obtain ⟨h0, h1, h2, h3, h4⟩ := hargs c
  refine ⟨((h.1 c).1 2).trans ?_, ((h.1 c).1 3).trans ?_, h.2 c⟩
  · refine (ref_arr2 m' c).trans ?_
    rw [rAmax, rGmax, h1, h2]
    exact (arr7 m c).symm
  · refine (ref_arr3 m' c).trans ?_
    rw [rGmax, h2]
    exact (arr8 m c).symm

end Cert.Quant.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantReference
public import proofs.«01_k».proof.Proof.Gen.QuantReference.Skeleton
public import proofs.«01_k».proof.Proof.Gen.QuantReference.Launch
public import proofs.«01_k».proof.Proof.Gen.QuantReference.Points
public import proofs.«01_k».proof.Proof.Gen.QuantReference.Frame
public import proofs.«01_k».proof.Proof.Algebra
public import proofs.«01_k».proof.Proof.QuantValue
public import Idealize.ShloMosaic.Adequacy
public import Idealize.ShloMosaic.Init

@[expose] public section

noncomputable section

namespace Cert.Proof

open Idealize.ShloMosaic Idealize.SL.Sem Cert.Kernel

/-- The reference runs, leaves its arguments unchanged, and declares no semaphore. -/
theorem frame_reference : Cert.quiescent_ReferenceIdeal := fun m g _ =>
  (θ_run Cert.ReferenceIdeal.defs _ _).mono (fun r h => ⟨fun c => ⟨(h c).2.2.2.2.1, (h c).2.2.2.2.2.1, (h c).2.2.2.2.2.2⟩,
    Idealize.ShloMosaic.sem_eq_zero_of_no_sems (by decide) r.2⟩) (Cert.ReferenceIdeal.Value.run m g)

/-- Everything claimed: the frames of the five programs, the named constant, the algebraic claim of the first kernel, the
    bit-exact claim of the second. -/
theorem claim : Cert.Claim := ⟨Cert.Kernel.Gen.facts, Cert.KernelIdeal.Gen.facts, Cert.ReferenceIdeal.Gen.facts,
  Cert.Quant.Gen.facts, Cert.QuantReference.Gen.facts,
  fun m g _ => Cert.Kernel.Gen.frame m g,
  fun m g _ => Cert.KernelIdeal.Gen.frame m g,
  frame_reference,
  fun m g _ => Cert.Quant.Frame.frame_quant m g,
  fun m g _ => Cert.QuantReference.Gen.frame m g,
  IdealRules.named_const.statement _ _ _ _ _ rfl,
  Cert.Algebra.algebraic,
  Cert.Quant.Value.bitexact⟩

end Cert.Proof

end
